-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs [hPre_finite_inputs : Cert.Pre_finite_inputs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs [hPre_finite_inputs : Cert.Pre_finite_inputs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_inputs [hKernel3Ideal : Cert.Kernel3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_inputs [hReference3Ideal : Cert.Reference3Ideal.Facts] [hPre_finite_inputs : Cert.Pre_finite_inputs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v58_0)) (v1 : (c : Dev Cert.Kernel2Ideal.nD) → Buf (Elt Ideal) ((c.tc : Thread Cert.Kernel2Ideal.nD Cert.Kernel2Ideal.τ).loc Cert.Kernel2Ideal.main_v58_1)) (v2 : (c : Dev Cert.Kernel2Ideal.nD) → Buf (Elt Ideal) ((c.tc : Thread Cert.Kernel2Ideal.nD Cert.Kernel2Ideal.τ).loc Cert.Kernel2Ideal.main_v58_2)) (v3 : (c : Dev Cert.Kernel2Ideal.nD) → Buf (Elt Ideal) ((c.tc : Thread Cert.Kernel2Ideal.nD Cert.Kernel2Ideal.τ).loc Cert.Kernel2Ideal.main_v58_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v58_0) = v0 c
          ∧ r.2.mem ((c.tc : Thread Cert.Kernel2Ideal.nD Cert.Kernel2Ideal.τ).loc Cert.Kernel2Ideal.main_v58_1) = v1 c
          ∧ r.2.mem ((c.tc : Thread Cert.Kernel2Ideal.nD Cert.Kernel2Ideal.τ).loc Cert.Kernel2Ideal.main_v58_2) = v2 c
          ∧ r.2.mem ((c.tc : Thread Cert.Kernel2Ideal.nD Cert.Kernel2Ideal.τ).loc Cert.Kernel2Ideal.main_v58_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v130) = v0 c
          ∧ r.2.mem ((c.tc : Thread Cert.Reference2Ideal.nD Cert.Reference2Ideal.τ).loc Cert.Reference2Ideal.main_v127) = v1 c
          ∧ r.2.mem ((c.tc : Thread Cert.Reference2Ideal.nD Cert.Reference2Ideal.τ).loc Cert.Reference2Ideal.main_v129) = v2 c
          ∧ r.2.mem ((c.tc : Thread Cert.Reference2Ideal.nD Cert.Reference2Ideal.τ).loc Cert.Reference2Ideal.main_v132) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_inputs [hKernel3Ideal : Cert.Kernel3Ideal.Facts] [hReference3Ideal : Cert.Reference3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v68_0)) (v1 : (c : Dev Cert.Kernel3Ideal.nD) → Buf (Elt Ideal) ((c.tc : Thread Cert.Kernel3Ideal.nD Cert.Kernel3Ideal.τ).loc Cert.Kernel3Ideal.main_v68_1)) (v2 : (c : Dev Cert.Kernel3Ideal.nD) → Buf (Elt Ideal) ((c.tc : Thread Cert.Kernel3Ideal.nD Cert.Kernel3Ideal.τ).loc Cert.Kernel3Ideal.main_v68_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v68_0) = v0 c
          ∧ r.2.mem ((c.tc : Thread Cert.Kernel3Ideal.nD Cert.Kernel3Ideal.τ).loc Cert.Kernel3Ideal.main_v68_1) = v1 c
          ∧ r.2.mem ((c.tc : Thread Cert.Kernel3Ideal.nD Cert.Kernel3Ideal.τ).loc Cert.Kernel3Ideal.main_v68_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v153) = v0 c
          ∧ r.2.mem ((c.tc : Thread Cert.Reference3Ideal.nD Cert.Reference3Ideal.τ).loc Cert.Reference3Ideal.main_v155) = v1 c
          ∧ r.2.mem ((c.tc : Thread Cert.Reference3Ideal.nD Cert.Reference3Ideal.τ).loc Cert.Reference3Ideal.main_v157) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_inputs (hKernel3Ideal := hKernel3Ideal) (hPre_finite_inputs := hPre_finite_inputs)
    ∧ quiescent_Reference3Ideal (hReference3Ideal := hReference3Ideal)
    ∧ quiescent_Reference3Ideal_pre_finite_inputs (hReference3Ideal := hReference3Ideal) (hPre_finite_inputs := hPre_finite_inputs)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_inputs (hKernel3Ideal := hKernel3Ideal) (hReference3Ideal := hReference3Ideal) (hPre_finite_inputs := hPre_finite_inputs)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S16x4096x1024 : Shape := ⟨3, ![16, 4096, 1024]⟩
abbrev S1024 : Shape := ⟨1, ![1024]⟩
abbrev S16x1024 : Shape := ⟨2, ![16, 1024]⟩
abbrev S1024x1536 : Shape := ⟨2, ![1024, 1536]⟩
abbrev S64 : Shape := ⟨1, ![64]⟩
abbrev S1x1024 : Shape := ⟨2, ![1, 1024]⟩
abbrev S1536x1024 : Shape := ⟨2, ![1536, 1024]⟩
abbrev S_ : Shape := ⟨0, ![]⟩
abbrev S1569x1024 : Shape := ⟨2, ![1569, 1024]⟩

class Facts : Prop where
  bcast_S1024_S1x1024_1 : S1024.BroadcastsInDim S1x1024 (![1] : Fin 1 → Fin S1x1024.rank)
  transposes_S1024x1536_S1536x1024_1_0 : S1024x1536.Transposes [1, 0] S1536x1024
  bcast_S_S1x1024 : S_.BroadcastsInDim S1x1024 (![] : Fin 0 → Fin S1x1024.rank)
  bcast_S_S16x1024 : S_.BroadcastsInDim S16x1024 (![] : Fin 0 → Fin S16x1024.rank)
  bcast_S_S1536x1024 : S_.BroadcastsInDim S1536x1024 (![] : Fin 0 → Fin S1536x1024.rank)
  concatenates_S1x1024_S16x1024_S16x1024_S1536x1024_S1569x1024_d0 : Shape.Concatenates [S1x1024, S16x1024, S16x1024, S1536x1024] S1569x1024 0

variable [Facts]

def fn {F : FTy → Type} [FloatOps F] (main_arg0 : FVec F S16x4096x1024 .f32) (main_arg1 : FVec F S1024 .f32) (main_arg2 : FVec F S16x1024 .f32) (main_arg3 : FVec F S16x1024 .f32) (main_arg4 : FVec F S1024x1536 .f32) (main_arg5 : FVec F S64 .f32) (main_arg6 : FVec F S64 .f32) : IVec S1569x1024 1 :=
  let main_v0 : FVec F S1x1024 .f32 := broadcastInDim S1x1024 ![1] bcast_S1024_S1x1024_1 main_arg1
  let main_v1 : FVec F S1536x1024 .f32 := (transpose S1536x1024 [1, 0] · transposes_S1024x1536_S1536x1024_1_0) main_arg4
  let main_v2 : FVec F S1x1024 .f32 := Host.absf main_v0
  let main_cst : FVec F S_ .f32 := constant S_ .f32 0x7F800000#32
  let main_v3 : FVec F S1x1024 .f32 := broadcastInDim S1x1024 ![] bcast_S_S1x1024 main_cst
  let main_v4 : IVec S1x1024 1 := cmpf .olt main_v2 main_v3
  let main_v5 : FVec F S16x1024 .f32 := Host.absf main_arg2
  let main_cst_0 : FVec F S_ .f32 := constant S_ .f32 0x7F800000#32
  let main_v6 : FVec F S16x1024 .f32 := broadcastInDim S16x1024 ![] bcast_S_S16x1024 main_cst_0
  let main_v7 : IVec S16x1024 1 := cmpf .olt main_v5 main_v6
  let main_v8 : FVec F S16x1024 .f32 := Host.absf main_arg3
  let main_cst_1 : FVec F S_ .f32 := constant S_ .f32 0x7F800000#32
  let main_v9 : FVec F S16x1024 .f32 := broadcastInDim S16x1024 ![] bcast_S_S16x1024 main_cst_1
  let main_v10 : IVec S16x1024 1 := cmpf .olt main_v8 main_v9
  let main_v11 : FVec F S1536x1024 .f32 := Host.absf main_v1
  let main_cst_2 : FVec F S_ .f32 := constant S_ .f32 0x7F800000#32
  let main_v12 : FVec F S1536x1024 .f32 := broadcastInDim S1536x1024 ![] bcast_S_S1536x1024 main_cst_2
  let main_v13 : IVec S1536x1024 1 := cmpf .olt main_v11 main_v12
  let main_v14 : IVec S1569x1024 1 := concatenate S1569x1024 0 [⟨S1x1024, main_v4⟩, ⟨S16x1024, main_v7⟩, ⟨S16x1024, main_v10⟩, ⟨S1536x1024, main_v13⟩] concatenates_S1x1024_S16x1024_S16x1024_S1536x1024_S1569x1024_d0
  main_v14
-- ==== Pre_finite_scores.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16x16384x4x64 : Shape := ⟨4, ![16, 16384, 4, 64]⟩
abbrev S_ : Shape := ⟨0, ![]⟩
abbrev S16x20736x4x64 : Shape := ⟨4, ![16, 20736, 4, 64]⟩

class Facts : Prop where
  shapeCasts_S16x4096x4x4x64_S16x16384x4x64 : S16x4096x4x4x64.ShapeCasts S16x16384x4x64
  bcast_S_S16x16384x4x64 : S_.BroadcastsInDim S16x16384x4x64 (![] : Fin 0 → Fin S16x16384x4x64.rank)
  bcast_S_S16x4096x4x64 : S_.BroadcastsInDim S16x4096x4x64 (![] : Fin 0 → Fin S16x4096x4x64.rank)
  bcast_S_S16x256x4x64 : S_.BroadcastsInDim S16x256x4x64 (![] : Fin 0 → Fin S16x256x4x64.rank)
  concatenates_S16x16384x4x64_S16x4096x4x64_S16x256x4x64_S16x20736x4x64_d1 : Shape.Concatenates [S16x16384x4x64, S16x4096x4x64, S16x256x4x64] S16x20736x4x64 1

variable [Facts]

def fn {F : FTy → Type} [FloatOps F] (main_arg0 : FVec F S16x4096x4x4x64 .f32) (main_arg1 : FVec F S16x4096x4x64 .f32) (main_arg2 : FVec F S16x4096x4x64 .f32) (main_arg3 : FVec F S16x256x4x64 .f32) (main_arg4 : FVec F S16x256x4x64 .f32) : IVec S16x20736x4x64 1 :=
  let main_v0 : FVec F S16x16384x4x64 .f32 := shapeCast S16x16384x4x64 main_arg0 shapeCasts_S16x4096x4x4x64_S16x16384x4x64
  let main_v1 : FVec F S16x16384x4x64 .f32 := Host.absf main_v0
  let main_cst : FVec F S_ .f32 := constant S_ .f32 0x7F800000#32
  let main_v2 : FVec F S16x16384x4x64 .f32 := broadcastInDim S16x16384x4x64 ![] bcast_S_S16x16384x4x64 main_cst
  let main_v3 : IVec S16x16384x4x64 1 := cmpf .olt main_v1 main_v2
  let main_v4 : FVec F S16x4096x4x64 .f32 := Host.absf main_arg1
  let main_cst_0 : FVec F S_ .f32 := constant S_ .f32 0x7F800000#32
  let main_v5 : FVec F S16x4096x4x64 .f32 := broadcastInDim S16x4096x4x64 ![] bcast_S_S16x4096x4x64 main_cst_0
  let main_v6 : IVec S16x4096x4x64 1 := cmpf .olt main_v4 main_v5
  let main_v7 : FVec F S16x256x4x64 .f32 := Host.absf main_arg3
  let main_cst_1 : FVec F S_ .f32 := constant S_ .f32 0x7F800000#32
  let main_v8 : FVec F S16x256x4x64 .f32 := broadcastInDim S16x256x4x64 ![] bcast_S_S16x256x4x64 main_cst_1
  let main_v9 : IVec S16x256x4x64 1 := cmpf .olt main_v7 main_v8
  let main_v10 : IVec S16x20736x4x64 1 := concatenate S16x20736x4x64 1 [⟨S16x16384x4x64, main_v3⟩, ⟨S16x4096x4x64, main_v6⟩, ⟨S16x256x4x64, main_v9⟩] concatenates_S16x16384x4x64_S16x4096x4x64_S16x256x4x64_S16x20736x4x64_d1
  main_v10
-- ==== Kernel.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16x4096x1024 : Shape := ⟨3, ![16, 4096, 1024]⟩
abbrev S_ : Shape := ⟨0, ![]⟩
abbrev S16x4096x256 : Shape := ⟨3, ![16, 4096, 256]⟩
abbrev S16x256x256 : Shape := ⟨3, ![16, 256, 256]⟩
abbrev S16x4352x256 : Shape := ⟨3, ![16, 4352, 256]⟩
abbrev S16x256x4352 : Shape := ⟨3, ![16, 256, 4352]⟩
abbrev S16 : Shape := ⟨1, ![16]⟩
abbrev S16x4352x4x64 : Shape := ⟨4, ![16, 4352, 4, 64]⟩
abbrev S1 : Shape := ⟨1, ![1]⟩
abbrev S16x4352x4 : Shape := ⟨3, ![16, 4352, 4]⟩
abbrev S16x4352x4x128 : Shape := ⟨4, ![16, 4352, 4, 128]⟩
abbrev S16x4352x512 : Shape := ⟨3, ![16, 4352, 512]⟩
abbrev S1x256x1024 : Shape := ⟨3, ![1, 256, 1024]⟩
abbrev S1x256x4352 : Shape := ⟨3, ![1, 256, 4352]⟩
abbrev S1x4352x512 : Shape := ⟨3, ![1, 4352, 512]⟩
abbrev S256x1024 : Shape := ⟨2, ![256, 1024]⟩
abbrev S256x64 : Shape := ⟨2, ![256, 64]⟩
abbrev S512x64 : Shape := ⟨2, ![512, 64]⟩
abbrev S1x64x4352 : Shape := ⟨3, ![1, 64, 4352]⟩
abbrev S64x4352 : Shape := ⟨2, ![64, 4352]⟩
abbrev S512x4352 : Shape := ⟨2, ![512, 4352]⟩
abbrev S512 : Shape := ⟨1, ![512]⟩
abbrev S512x1 : Shape := ⟨2, ![512, 1]⟩
abbrev S1x4352x128 : Shape := ⟨3, ![1, 4352, 128]⟩
abbrev S4352x128 : Shape := ⟨2, ![4352, 128]⟩
abbrev S512x128 : Shape := ⟨2, ![512, 128]⟩
abbrev S1x256x64 : Shape := ⟨3, ![1, 256, 64]⟩

abbrev nBuf : Space → Nat
  | .hbm => 34
  | .vmem => 8
  | .smem => 1
  | _ => 0

abbrev bufTy : (tb : Table) → Fin (tcTables nBuf tb) → BufTy
  | .hbm, ⟨0, _⟩ => ⟨S16x4096x4x4x64, .f32⟩
  | .hbm, ⟨1, _⟩ => ⟨S16x4096x4x64, .f32⟩
  | .hbm, ⟨2, _⟩ => ⟨S16x4096x4x64, .f32⟩
  | .hbm, ⟨3, _⟩ => ⟨S16x256x4x64, .f32⟩
  | .hbm, ⟨4, _⟩ => ⟨S16x256x4x64, .f32⟩
  | .hbm, ⟨5, _⟩ => ⟨S16x4096x1024, .f32⟩
  | .hbm, ⟨6, _⟩ => ⟨S_, .f32⟩
  | .hbm, ⟨7, _⟩ => ⟨S16x4096x1024, .f32⟩
  | .hbm, ⟨8, _⟩ => ⟨S16x4096x1024, .f32⟩
  | .hbm, ⟨9, _⟩ => ⟨S16x4096x1024, .bf16⟩
  | .hbm, ⟨10, _⟩ => ⟨S16x4096x256, .f32⟩
  | .hbm, ⟨11, _⟩ => ⟨S16x4096x256, .bf16⟩
  | .hbm, ⟨12, _⟩ => ⟨S16x4096x256, .f32⟩
  | .hbm, ⟨13, _⟩ => ⟨S16x4096x256, .bf16⟩
  | .hbm, ⟨14, _⟩ => ⟨S16x256x256, .f32⟩
  | .hbm, ⟨15, _⟩ => ⟨S16x256x256, .bf16⟩
  | .hbm, ⟨16, _⟩ => ⟨S16x256x256, .f32⟩
  | .hbm, ⟨17, _⟩ => ⟨S16x256x256, .bf16⟩
  | .hbm, ⟨18, _⟩ => ⟨S16x4352x256, .bf16⟩
  | .hbm, ⟨19, _⟩ => ⟨S16x4352x256, .bf16⟩
  | .hbm, ⟨20, _⟩ => ⟨S16x256x4352, .bf16⟩
  | .hbm, ⟨21, _⟩ => ⟨S_, .f32⟩
  | .hbm, ⟨22, _⟩ => ⟨S16, .f32⟩
  | .hbm, ⟨23, _⟩ => ⟨S_, .bf16⟩
  | .hbm, ⟨24, _⟩ => ⟨S16x4352x4x64, .bf16⟩
  | .hbm, ⟨25, _⟩ => ⟨S_, .i32⟩
  | .hbm, ⟨26, _⟩ => ⟨S1, .i32⟩
  | .hbm, ⟨27, _⟩ => ⟨S_, .bf16⟩
  | .hbm, ⟨28, _⟩ => ⟨S16x4352x4, .bf16⟩
  | .hbm, ⟨29, _⟩ => ⟨S16x4352x4x64, .bf16⟩
  | .hbm, ⟨30, _⟩ => ⟨S16x4352x4x64, .bf16⟩
  | .hbm, ⟨31, _⟩ => ⟨S16x4352x4x128, .bf16⟩
  | .hbm, ⟨32, _⟩ => ⟨S16x4352x512, .bf16⟩
  | .hbm, ⟨33, _⟩ => ⟨S16x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x4352, .bf16⟩
  | .local _ .vmem, ⟨3, _⟩ => ⟨S1x256x4352, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x1024, .bf16⟩
  | .local _ .vmem, ⟨7, _⟩ => ⟨S1x256x1024, .bf16⟩
  | .local _ .smem, ⟨0, _⟩ => ⟨S16, .f32⟩
  | _, _ => ⟨S16x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16x4x256x4096x4 : Shape := ⟨5, ![16, 4, 256, 4096, 4]⟩
abbrev S16x4x4x4096x256 : Shape := ⟨5, ![16, 4, 4, 4096, 256]⟩
abbrev S_ : Shape := ⟨0, ![]⟩
abbrev S16x4x4096x4096x4 : Shape := ⟨5, ![16, 4, 4096, 4096, 4]⟩
abbrev S16x4x4x4096x4096 : Shape := ⟨5, ![16, 4, 4, 4096, 4096]⟩
abbrev S16x4x4x4096 : Shape := ⟨4, ![16, 4, 4, 4096]⟩
abbrev S16x4x4x4096x1 : Shape := ⟨5, ![16, 4, 4, 4096, 1]⟩
abbrev S16x4x64x4x4096 : Shape := ⟨5, ![16, 4, 64, 4, 4096]⟩
abbrev S16x4096x1024 : Shape := ⟨3, ![16, 4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x4x4x64, .f32⟩
  | .hbm, ⟨1, _⟩ => ⟨S16x4096x4x64, .f32⟩
  | .hbm, ⟨2, _⟩ => ⟨S16x4096x4x64, .f32⟩
  | .hbm, ⟨3, _⟩ => ⟨S16x256x4x64, .f32⟩
  | .hbm, ⟨4, _⟩ => ⟨S16x256x4x64, .f32⟩
  | .hbm, ⟨5, _⟩ => ⟨S16x4x256x4096x4, .f32⟩
  | .hbm, ⟨6, _⟩ => ⟨S16x4x4x4096x256, .f32⟩
  | .hbm, ⟨7, _⟩ => ⟨S_, .f32⟩
  | .hbm, ⟨8, _⟩ => ⟨S16x4x4x4096x256, .f32⟩
  | .hbm, ⟨9, _⟩ => ⟨S16x4x4x4096x256, .f32⟩
  | .hbm, ⟨10, _⟩ => ⟨S16x4x4096x4096x4, .f32⟩
  | .hbm, ⟨11, _⟩ => ⟨S16x4x4x4096x4096, .f32⟩
  | .hbm, ⟨12, _⟩ => ⟨S_, .f32⟩
  | .hbm, ⟨13, _⟩ => ⟨S16x4x4x4096x4096, .f32⟩
  | .hbm, ⟨14, _⟩ => ⟨S16x4x4x4096x4096, .f32⟩
  | .hbm, ⟨15, _⟩ => ⟨S_, .f32⟩
  | .hbm, ⟨16, _⟩ => ⟨S16x4x4x4096, .f32⟩
  | .hbm, ⟨17, _⟩ => ⟨S16x4x4x4096x1, .f32⟩
  | .hbm, ⟨18, _⟩ => ⟨S_, .f32⟩
  | .hbm, ⟨19, _⟩ => ⟨S16x4x4x4096, .f32⟩
  | .hbm, ⟨20, _⟩ => ⟨S16x4x4x4096x1, .f32⟩
  | .hbm, ⟨21, _⟩ => ⟨S16x4x4x4096x1, .f32⟩
  | .hbm, ⟨22, _⟩ => ⟨S16x4x4x4096x256, .f32⟩
  | .hbm, ⟨23, _⟩ => ⟨S16x4x4x4096x256, .f32⟩
  | .hbm, ⟨24, _⟩ => ⟨S16x4x4x4096x256, .f32⟩
  | .hbm, ⟨25, _⟩ => ⟨S16x4x4x4096x4096, .f32⟩
  | .hbm, ⟨26, _⟩ => ⟨S16x4x4x4096x4096, .f32⟩
  | .hbm, ⟨27, _⟩ => ⟨S16x4x4x4096x4096, .f32⟩
  | .hbm, ⟨28, _⟩ => ⟨S_, .f32⟩
  | .hbm, ⟨29, _⟩ => ⟨S16x4x4x4096, .f32⟩
  | .hbm, ⟨30, _⟩ => ⟨S16x4x4x4096x1, .f32⟩
  | .hbm, ⟨31, _⟩ => ⟨S_, .f32⟩
  | .hbm, ⟨32, _⟩ => ⟨S16x4x4x4096, .f32⟩
  | .hbm, ⟨33, _⟩ => ⟨S16x4x4x4096x1, .f32⟩
  | .hbm, ⟨34, _⟩ => ⟨S16x4x4x4096x1, .f32⟩
  | .hbm, ⟨35, _⟩ => ⟨S16x4x4x4096x256, .f32⟩
  | .hbm, ⟨36, _⟩ => ⟨S16x4x4x4096x256, .f32⟩
  | .hbm, ⟨37, _⟩ => ⟨S16x4x4x4096x4096, .f32⟩
  | .hbm, ⟨38, _⟩ => ⟨S16x4x4x4096x4096, .f32⟩
  | .hbm, ⟨39, _⟩ => ⟨S16x4x64x4x4096, .f32⟩
  | .hbm, ⟨40, _⟩ => ⟨S16x4096x4x4x64, .f32⟩
  | .hbm, ⟨41, _⟩ => ⟨S16x4x64x4x4096, .f32⟩
  | .hbm, ⟨42, _⟩ => ⟨S16x4096x4x4x64, .f32⟩
  | .hbm, ⟨43, _⟩ => ⟨S16x4096x4x4x64, .f32⟩
  | .hbm, ⟨44, _⟩ => ⟨S16x4096x1024, .f32⟩
  | .hbm, ⟨45, _⟩ => ⟨S16x4096x1024, .bf16⟩
  | _, _ => ⟨S16x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S16x1024 : Shape := ⟨2, ![16, 1024]⟩
abbrev S1024x2304 : Shape := ⟨2, ![1024, 2304]⟩
abbrev S16x1x1024 : Shape := ⟨3, ![16, 1, 1024]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x128 : Shape := ⟨2, ![8, 128]⟩
abbrev S1x1024 : Shape := ⟨2, ![1, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x4096x1536 : Shape := ⟨3, ![16, 4096, 1536]⟩
abbrev S16x4096x512 : Shape := ⟨3, ![16, 4096, 512]⟩
abbrev S16x4096x128 : Shape := ⟨3, ![16, 4096, 128]⟩
abbrev S1x512x1024 : Shape := ⟨3, ![1, 512, 1024]⟩
abbrev S1x1x1024 : Shape := ⟨3, ![1, 1, 1024]⟩
abbrev S512x128 : Shape := ⟨2, ![512, 128]⟩
abbrev S1x512x1536 : Shape := ⟨3, ![1, 512, 1536]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 145
  | .vmem => 22
  | .smem => 0
  | _ => 0

abbrev hbmTy0_0 (i : Nat) : BufTy := match i % 128 with
  | 0 => ⟨S16x4096x1024, .f32⟩
  | 1 => ⟨S1024, .f32⟩
  | 2 => ⟨S16x1024, .f32⟩
  | 3 => ⟨S16x1024, .f32⟩
  | 4 => ⟨S1024x2304, .f32⟩
  | 5 => ⟨S16x1x1024, .f32⟩
  | 6 => ⟨S16x1x1024, .f32⟩
  | 7 => ⟨S1024x2304, .bf16⟩
  | 8 => ⟨S4096, .i32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i32⟩
  | 32 => ⟨S4096, .i32⟩
  | 33 => ⟨S_, .i32⟩
  | 34 => ⟨S4096, .i32⟩
  | 35 => ⟨S4096, .i1⟩
  | 36 => ⟨S4096, .i1⟩
  | 37 => ⟨S_, .i32⟩
  | 38 => ⟨S4096, .i32⟩
  | 39 => ⟨S4096, .i32⟩
  | 40 => ⟨S4096, .i32⟩
  | 41 => ⟨S4096, .f32⟩
  | 42 => ⟨S4096x1, .f32⟩
  | 43 => ⟨S1x16, .f32⟩
  | 44 => ⟨S4096x16, .f32⟩
  | 45 => ⟨S4096x16, .f32⟩
  | 46 => ⟨S4096x16, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i1⟩
  | 61 => ⟨S_, .i32⟩
  | 62 => ⟨S_, .i1⟩
  | 63 => ⟨S4096, .i1⟩
  | 64 => ⟨S4096, .i1⟩
  | 65 => ⟨S4096, .i1⟩
  | 66 => ⟨S4096, .i32⟩
  | 67 => ⟨S4096, .i32⟩
  | 68 => ⟨S4096, .i32⟩
  | 69 => ⟨S4096, .f32⟩
  | 70 => ⟨S4096x1, .f32⟩
  | 71 => ⟨S1x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S4096x64, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x16, .f32⟩
  | 84 => ⟨S4096x64, .f32⟩
  | 85 => ⟨S1x4096x1x64, .f32⟩
  | 86 => ⟨S1x4096x2x64, .f32⟩
  | 87 => ⟨S4096x128, .f32⟩
  | 88 => ⟨S1x4096x1x64, .f32⟩
  | 89 => ⟨S1x4096x2x64, .f32⟩
  | 90 => ⟨S4096x128, .f32⟩
  | 91 => ⟨S_, .f32⟩
  | 92 => ⟨S8x128, .f32⟩
  | 93 => ⟨S1x1024, .f32⟩
  | 94 => ⟨S128, .i32⟩
  | 95 => ⟨S128x1, .i32⟩
  | 96 => ⟨S_, .i32⟩
  | 97 => ⟨S_, .i32⟩
  | 98 => ⟨S128x1, .i32⟩
  | 99 => ⟨S128x1, .i32⟩
  | 100 => ⟨S128x1, .i32⟩
  | 101 => ⟨S_, .i32⟩
  | 102 => ⟨S128x1, .i32⟩
  | 103 => ⟨S128x1, .i1⟩
  | 104 => ⟨S128x1, .i32⟩
  | 105 => ⟨S128x1, .i32⟩
  | 106 => ⟨S_, .i32⟩
  | 107 => ⟨S128x1, .i32⟩
  | 108 => ⟨S128x1, .i1⟩
  | 109 => ⟨S128x1, .i1⟩
  | 110 => ⟨S_, .i32⟩
  | 111 => ⟨S128x1, .i32⟩
  | 112 => ⟨S128x1, .i32⟩
  | 113 => ⟨S128x1, .i32⟩
  | 114 => ⟨S1x128, .i32⟩
  | 115 => ⟨S_, .i32⟩
  | 116 => ⟨S_, .i32⟩
  | 117 => ⟨S1x128, .i32⟩
  | 118 => ⟨S1x128, .i32⟩
  | 119 => ⟨S1x128, .i32⟩
  | 120 => ⟨S_, .i32⟩
  | 121 => ⟨S1x128, .i32⟩
  | 122 => ⟨S1x128, .i1⟩
  | 123 => ⟨S1x128, .i32⟩
  | 124 => ⟨S1x128, .i32⟩
  | 125 => ⟨S_, .i32⟩
  | 126 => ⟨S1x128, .i32⟩
  | 127 => ⟨S1x128, .i1⟩
  | _ => ⟨S16x4096x1024, .f32⟩

abbrev hbmTy0_1 (i : Nat) : BufTy := match i % 128 with
  | 0 => ⟨S1x128, .i1⟩
  | 1 => ⟨S_, .i32⟩
  | 2 => ⟨S1x128, .i32⟩
  | 3 => ⟨S1x128, .i32⟩
  | 4 => ⟨S1x128, .i32⟩
  | 5 => ⟨S128x128, .i32⟩
  | 6 => ⟨S128x128, .i32⟩
  | 7 => ⟨S128x128, .i1⟩
  | 8 => ⟨S128x128, .f32⟩
  | 9 => ⟨S_, .f32⟩
  | 10 => ⟨S128x128, .f32⟩
  | 11 => ⟨S128x128, .f32⟩
  | 12 => ⟨S128x128, .bf16⟩
  | 13 => ⟨S16x4096x1536, .f32⟩
  | 14 => ⟨S16x4096x512, .bf16⟩
  | 15 => ⟨S16x4096x128, .bf16⟩
  | 16 => ⟨S16x4096x128, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128, .f32⟩
  | .local _ .vmem, ⟨13, _⟩ => ⟨S128x128, .bf16⟩
  | .local _ .vmem, ⟨14, _⟩ => ⟨S1x512x1536, .f32⟩
  | .local _ .vmem, ⟨15, _⟩ => ⟨S1x512x1536, .f32⟩
  | .local _ .vmem, ⟨16, _⟩ => ⟨S1x512x512, .bf16⟩
  | .local _ .vmem, ⟨17, _⟩ => ⟨S1x512x512, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_4 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_5 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v48 : Ref sig .tc := ⟨.hbm, 113, rfl⟩
abbrev main_v49 : Ref sig .tc := ⟨.hbm, 114, rfl⟩
abbrev main_c_6 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_c : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_0 : Ref sig .tc := ⟨.hbm, 129, rfl⟩
abbrev main_call3_v12 : Ref sig .tc := ⟨.hbm, 130, rfl⟩
abbrev main_call3_v13 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_cst_7 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58_0 : Ref sig .tc := ⟨.hbm, 141, rfl⟩
abbrev main_v58_1 : Ref sig .tc := ⟨.hbm, 142, rfl⟩
abbrev main_v58_2 : Ref sig .tc := ⟨.hbm, 143, rfl⟩
abbrev main_v58_3 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S1024 : Shape := ⟨1, ![1024]⟩
abbrev S16x1024 : Shape := ⟨2, ![16, 1024]⟩
abbrev S1024x2304 : Shape := ⟨2, ![1024, 2304]⟩
abbrev S64 : Shape := ⟨1, ![64]⟩
abbrev S64x64 : Shape := ⟨2, ![64, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x2304 : Shape := ⟨3, ![16, 4096, 2304]⟩
abbrev S16x4096x512 : Shape := ⟨3, ![16, 4096, 512]⟩
abbrev S16x4096x8x64 : Shape := ⟨4, ![16, 4096, 8, 64]⟩
abbrev S16x4096x8x32 : Shape := ⟨4, ![16, 4096, 8, 32]⟩
abbrev S1x4096x1x16 : Shape := ⟨4, ![1, 4096, 1, 16]⟩
abbrev S16x4096x8x16 : Shape := ⟨4, ![16, 4096, 8, 16]⟩
abbrev S16x4096x128 : Shape := ⟨3, ![16, 4096, 128]⟩
abbrev S16x4096x2x64 : Shape := ⟨4, ![16, 4096, 2, 64]⟩
abbrev S16x4096x2x32 : Shape := ⟨4, ![16, 4096, 2, 32]⟩
abbrev S16x4096x2x16 : Shape := ⟨4, ![16, 4096, 2, 16]⟩
abbrev S16x4096x1536 : Shape := ⟨3, ![16, 4096, 1536]⟩

abbrev nBuf : Space → Nat
  | .hbm => 147
  | .vmem => 0
  | .smem => 0
  | _ => 0

abbrev hbmTy0_0 (i : Nat) : BufTy := match i % 128 with
  | 0 => ⟨S16x4096x1024, .f32⟩
  | 1 => ⟨S1024, .f32⟩
  | 2 => ⟨S16x1024, .f32⟩
  | 3 => ⟨S16x1024, .f32⟩
  | 4 => ⟨S1024x2304, .f32⟩
  | 5 => ⟨S64, .i32⟩
  | 6 => ⟨S64, .i32⟩
  | 7 => ⟨S64x64, .i32⟩
  | 8 => ⟨S64x64, .i32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S4096, .i32⟩
  | 24 => ⟨S4096, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096, .i32⟩
  | 31 => ⟨S4096, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S16x4096x1024, .f32⟩
  | 42 => ⟨S_, .f32⟩
  | 43 => ⟨S16x4096, .f32⟩
  | 44 => ⟨S16x4096x1, .f32⟩
  | 45 => ⟨S_, .f32⟩
  | 46 => ⟨S16x4096x1, .f32⟩
  | 47 => ⟨S16x4096x1, .f32⟩
  | 48 => ⟨S_, .f32⟩
  | 49 => ⟨S16x4096x1, .f32⟩
  | 50 => ⟨S16x4096x1, .f32⟩
  | 51 => ⟨S16x4096x1, .f32⟩
  | 52 => ⟨S16x4096x1024, .f32⟩
  | 53 => ⟨S16x4096x1024, .f32⟩
  | 54 => ⟨S1x1x1024, .f32⟩
  | 55 => ⟨S16x4096x1024, .f32⟩
  | 56 => ⟨S16x4096x1024, .f32⟩
  | 57 => ⟨S16x1x1024, .f32⟩
  | 58 => ⟨S_, .f32⟩
  | 59 => ⟨S16x1x1024, .f32⟩
  | 60 => ⟨S16x1x1024, .f32⟩
  | 61 => ⟨S16x4096x1024, .f32⟩
  | 62 => ⟨S16x4096x1024, .f32⟩
  | 63 => ⟨S16x1x1024, .f32⟩
  | 64 => ⟨S16x4096x1024, .f32⟩
  | 65 => ⟨S16x4096x1024, .f32⟩
  | 66 => ⟨S16x4096x2304, .f32⟩
  | 67 => ⟨S16x4096x512, .f32⟩
  | 68 => ⟨S16x4096x8x64, .f32⟩
  | 69 => ⟨S16x4096x8x32, .f32⟩
  | 70 => ⟨S1x4096x1x16, .f32⟩
  | 71 => ⟨S1x4096x1x16, .f32⟩
  | 72 => ⟨S16x4096x8x16, .f32⟩
  | 73 => ⟨S16x4096x8x16, .f32⟩
  | 74 => ⟨S16x4096x8x16, .f32⟩
  | 75 => ⟨S16x4096x8x16, .f32⟩
  | 76 => ⟨S16x4096x8x16, .f32⟩
  | 77 => ⟨S16x4096x8x16, .f32⟩
  | 78 => ⟨S16x4096x8x16, .f32⟩
  | 79 => ⟨S16x4096x8x16, .f32⟩
  | 80 => ⟨S16x4096x8x16, .f32⟩
  | 81 => ⟨S16x4096x8x16, .f32⟩
  | 82 => ⟨S16x4096x8x16, .f32⟩
  | 83 => ⟨S16x4096x8x16, .f32⟩
  | 84 => ⟨S16x4096x8x32, .f32⟩
  | 85 => ⟨S16x4096x8x32, .f32⟩
  | 86 => ⟨S1x4096x1x16, .f32⟩
  | 87 => ⟨S1x4096x1x16, .f32⟩
  | 88 => ⟨S16x4096x8x16, .f32⟩
  | 89 => ⟨S16x4096x8x16, .f32⟩
  | 90 => ⟨S16x4096x8x16, .f32⟩
  | 91 => ⟨S16x4096x8x16, .f32⟩
  | 92 => ⟨S16x4096x8x16, .f32⟩
  | 93 => ⟨S16x4096x8x16, .f32⟩
  | 94 => ⟨S16x4096x8x16, .f32⟩
  | 95 => ⟨S16x4096x8x16, .f32⟩
  | 96 => ⟨S16x4096x8x16, .f32⟩
  | 97 => ⟨S16x4096x8x16, .f32⟩
  | 98 => ⟨S16x4096x8x16, .f32⟩
  | 99 => ⟨S16x4096x8x16, .f32⟩
  | 100 => ⟨S16x4096x8x32, .f32⟩
  | 101 => ⟨S16x4096x8x64, .f32⟩
  | 102 => ⟨S16x4096x128, .f32⟩
  | 103 => ⟨S16x4096x2x64, .f32⟩
  | 104 => ⟨S16x4096x2x32, .f32⟩
  | 105 => ⟨S1x4096x1x16, .f32⟩
  | 106 => ⟨S1x4096x1x16, .f32⟩
  | 107 => ⟨S16x4096x2x16, .f32⟩
  | 108 => ⟨S16x4096x2x16, .f32⟩
  | 109 => ⟨S16x4096x2x16, .f32⟩
  | 110 => ⟨S16x4096x2x16, .f32⟩
  | 111 => ⟨S16x4096x2x16, .f32⟩
  | 112 => ⟨S16x4096x2x16, .f32⟩
  | 113 => ⟨S16x4096x2x16, .f32⟩
  | 114 => ⟨S16x4096x2x16, .f32⟩
  | 115 => ⟨S16x4096x2x16, .f32⟩
  | 116 => ⟨S16x4096x2x16, .f32⟩
  | 117 => ⟨S16x4096x2x16, .f32⟩
  | 118 => ⟨S16x4096x2x16, .f32⟩
  | 119 => ⟨S16x4096x2x32, .f32⟩
  | 120 => ⟨S16x4096x2x32, .f32⟩
  | 121 => ⟨S1x4096x1x16, .f32⟩
  | 122 => ⟨S1x4096x1x16, .f32⟩
  | 123 => ⟨S16x4096x2x16, .f32⟩
  | 124 => ⟨S16x4096x2x16, .f32⟩
  | 125 => ⟨S16x4096x2x16, .f32⟩
  | 126 => ⟨S16x4096x2x16, .f32⟩
  | 127 => ⟨S16x4096x2x16, .f32⟩
  | _ => ⟨S16x4096x1024, .f32⟩

abbrev hbmTy0_1 (i : Nat) : BufTy := match i % 128 with
  | 0 => ⟨S16x4096x2x16, .f32⟩
  | 1 => ⟨S16x4096x2x16, .f32⟩
  | 2 => ⟨S16x4096x2x16, .f32⟩
  | 3 => ⟨S16x4096x2x16, .f32⟩
  | 4 => ⟨S16x4096x2x16, .f32⟩
  | 5 => ⟨S16x4096x2x16, .f32⟩
  | 6 => ⟨S16x4096x2x16, .f32⟩
  | 7 => ⟨S16x4096x2x32, .f32⟩
  | 8 => ⟨S16x4096x2x64, .f32⟩
  | 9 => ⟨S_, .f32⟩
  | 10 => ⟨S16x4096x8x64, .f32⟩
  | 11 => ⟨S16x4096x8x64, .f32⟩
  | 12 => ⟨S16x4096x512, .f32⟩
  | 13 => ⟨S16x4096x512, .bf16⟩
  | 14 => ⟨S16x4096x128, .f32⟩
  | 15 => ⟨S16x4096x128, .bf16⟩
  | 16 => ⟨S16x4096x1536, .f32⟩
  | 17 => ⟨S16x4096x128, .f32⟩
  | 18 => ⟨S16x4096x128, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_cst_7 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S16x1024 : Shape := ⟨2, ![16, 1024]⟩
abbrev S1024x1536 : Shape := ⟨2, ![1024, 1536]⟩
abbrev S64 : Shape := ⟨1, ![64]⟩
abbrev S_ : Shape := ⟨0, ![]⟩
abbrev S8x128 : Shape := ⟨2, ![8, 128]⟩
abbrev S1x64 : Shape := ⟨2, ![1, 64]⟩
abbrev S2x64 : Shape := ⟨2, ![2, 64]⟩
abbrev S128 : Shape := ⟨1, ![128]⟩
abbrev S1 : Shape := ⟨1, ![1]⟩
abbrev S16x1x1024 : Shape := ⟨3, ![16, 1, 1024]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S128x1 : Shape := ⟨2, ![128, 1]⟩
abbrev S1x128 : Shape := ⟨2, ![1, 128]⟩
abbrev S128x128 : Shape := ⟨2, ![128, 128]⟩
abbrev S16x4096x256 : Shape := ⟨3, ![16, 4096, 256]⟩
abbrev S1x512x1024 : Shape := ⟨3, ![1, 512, 1024]⟩
abbrev S1x1x1024 : Shape := ⟨3, ![1, 1, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x512x128 : Shape := ⟨3, ![1, 512, 128]⟩
abbrev S1024x256 : Shape := ⟨2, ![1024, 256]⟩
abbrev S512x256 : Shape := ⟨2, ![512, 256]⟩

abbrev nBuf : Space → Nat
  | .hbm => 158
  | .vmem => 20
  | .smem => 0
  | _ => 0

abbrev hbmTy0_0 (i : Nat) : BufTy := match i % 128 with
  | 0 => ⟨S16x4096x1024, .f32⟩
  | 1 => ⟨S1024, .f32⟩
  | 2 => ⟨S16x1024, .f32⟩
  | 3 => ⟨S16x1024, .f32⟩
  | 4 => ⟨S1024x1536, .f32⟩
  | 5 => ⟨S64, .f32⟩
  | 6 => ⟨S64, .f32⟩
  | 7 => ⟨S_, .f32⟩
  | 8 => ⟨S8x128, .f32⟩
  | 9 => ⟨S1x64, .f32⟩
  | 10 => ⟨S2x64, .f32⟩
  | 11 => ⟨S128, .f32⟩
  | 12 => ⟨S_, .i32⟩
  | 13 => ⟨S1, .i32⟩
  | 14 => ⟨S8x128, .f32⟩
  | 15 => ⟨S1x64, .f32⟩
  | 16 => ⟨S2x64, .f32⟩
  | 17 => ⟨S128, .f32⟩
  | 18 => ⟨S_, .i32⟩
  | 19 => ⟨S1, .i32⟩
  | 20 => ⟨S8x128, .f32⟩
  | 21 => ⟨S16x1x1024, .f32⟩
  | 22 => ⟨S16x1x1024, .f32⟩
  | 23 => ⟨S1024x1536, .bf16⟩
  | 24 => ⟨S4096, .i32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S_, .i32⟩
  | 40 => ⟨S_, .i32⟩
  | 41 => ⟨S4096, .i32⟩
  | 42 => ⟨S4096, .i32⟩
  | 43 => ⟨S4096, .i32⟩
  | 44 => ⟨S_, .i32⟩
  | 45 => ⟨S4096, .i32⟩
  | 46 => ⟨S4096, .i1⟩
  | 47 => ⟨S4096, .i32⟩
  | 48 => ⟨S4096, .i32⟩
  | 49 => ⟨S_, .i32⟩
  | 50 => ⟨S4096, .i32⟩
  | 51 => ⟨S4096, .i1⟩
  | 52 => ⟨S4096, .i1⟩
  | 53 => ⟨S_, .i32⟩
  | 54 => ⟨S4096, .i32⟩
  | 55 => ⟨S4096, .i32⟩
  | 56 => ⟨S4096, .i32⟩
  | 57 => ⟨S4096, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i1⟩
  | 77 => ⟨S_, .i32⟩
  | 78 => ⟨S_, .i1⟩
  | 79 => ⟨S4096, .i1⟩
  | 80 => ⟨S4096, .i1⟩
  | 81 => ⟨S4096, .i1⟩
  | 82 => ⟨S4096, .i32⟩
  | 83 => ⟨S4096, .i32⟩
  | 84 => ⟨S4096, .i32⟩
  | 85 => ⟨S4096, .f32⟩
  | 86 => ⟨S4096x1, .f32⟩
  | 87 => ⟨S1x16, .f32⟩
  | 88 => ⟨S4096x16, .f32⟩
  | 89 => ⟨S4096x16, .f32⟩
  | 90 => ⟨S4096x16, .f32⟩
  | 91 => ⟨S4096x16, .f32⟩
  | 92 => ⟨S4096x16, .f32⟩
  | 93 => ⟨S4096x64, .f32⟩
  | 94 => ⟨S4096x16, .f32⟩
  | 95 => ⟨S4096x16, .f32⟩
  | 96 => ⟨S4096x16, .f32⟩
  | 97 => ⟨S4096x16, .f32⟩
  | 98 => ⟨S4096x16, .f32⟩
  | 99 => ⟨S4096x16, .f32⟩
  | 100 => ⟨S4096x64, .f32⟩
  | 101 => ⟨S1x4096x1x64, .f32⟩
  | 102 => ⟨S1x4096x2x64, .f32⟩
  | 103 => ⟨S4096x128, .f32⟩
  | 104 => ⟨S1x4096x1x64, .f32⟩
  | 105 => ⟨S1x4096x2x64, .f32⟩
  | 106 => ⟨S4096x128, .f32⟩
  | 107 => ⟨S1x1024, .f32⟩
  | 108 => ⟨S128, .i32⟩
  | 109 => ⟨S128x1, .i32⟩
  | 110 => ⟨S_, .i32⟩
  | 111 => ⟨S_, .i32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i1⟩
  | 118 => ⟨S128x1, .i32⟩
  | 119 => ⟨S128x1, .i32⟩
  | 120 => ⟨S_, .i32⟩
  | 121 => ⟨S128x1, .i32⟩
  | 122 => ⟨S128x1, .i1⟩
  | 123 => ⟨S128x1, .i1⟩
  | 124 => ⟨S_, .i32⟩
  | 125 => ⟨S128x1, .i32⟩
  | 126 => ⟨S128x1, .i32⟩
  | 127 => ⟨S128x1, .i32⟩
  | _ => ⟨S16x4096x1024, .f32⟩

abbrev hbmTy0_1 (i : Nat) : BufTy := match i % 128 with
  | 0 => ⟨S1x128, .i32⟩
  | 1 => ⟨S_, .i32⟩
  | 2 => ⟨S_, .i32⟩
  | 3 => ⟨S1x128, .i32⟩
  | 4 => ⟨S1x128, .i32⟩
  | 5 => ⟨S1x128, .i32⟩
  | 6 => ⟨S_, .i32⟩
  | 7 => ⟨S1x128, .i32⟩
  | 8 => ⟨S1x128, .i1⟩
  | 9 => ⟨S1x128, .i32⟩
  | 10 => ⟨S1x128, .i32⟩
  | 11 => ⟨S_, .i32⟩
  | 12 => ⟨S1x128, .i32⟩
  | 13 => ⟨S1x128, .i1⟩
  | 14 => ⟨S1x128, .i1⟩
  | 15 => ⟨S_, .i32⟩
  | 16 => ⟨S1x128, .i32⟩
  | 17 => ⟨S1x128, .i32⟩
  | 18 => ⟨S1x128, .i32⟩
  | 19 => ⟨S128x128, .i32⟩
  | 20 => ⟨S128x128, .i32⟩
  | 21 => ⟨S128x128, .i1⟩
  | 22 => ⟨S128x128, .f32⟩
  | 23 => ⟨S_, .f32⟩
  | 24 => ⟨S128x128, .f32⟩
  | 25 => ⟨S128x128, .f32⟩
  | 26 => ⟨S128x128, .bf16⟩
  | 27 => ⟨S16x4096x1024, .bf16⟩
  | 28 => ⟨S16x4096x256, .bf16⟩
  | 29 => ⟨S16x4096x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128, .f32⟩
  | .local _ .vmem, ⟨13, _⟩ => ⟨S128x128, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_call1_v0 : Ref sig .tc := ⟨.hbm, 64, rfl⟩
abbrev main_call1_c : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_c_1 : Ref sig .tc := ⟨.hbm, 71, rfl⟩
abbrev main_call1_v5 : Ref sig .tc := ⟨.hbm, 72, rfl⟩
abbrev main_call1_v6 : Ref sig .tc := ⟨.hbm, 73, rfl⟩
abbrev main_call1_c_2 : Ref sig .tc := ⟨.hbm, 74, rfl⟩
abbrev main_call1_v7 : Ref sig .tc := ⟨.hbm, 75, rfl⟩
abbrev main_call1_v8 : Ref sig .tc := ⟨.hbm, 76, rfl⟩
abbrev main_call1_c_3 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_7 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_c : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_0 : Ref sig .tc := ⟨.hbm, 124, rfl⟩
abbrev main_call2_v12 : Ref sig .tc := ⟨.hbm, 125, rfl⟩
abbrev main_call2_v13 : Ref sig .tc := ⟨.hbm, 126, rfl⟩
abbrev main_v58 : Ref sig .tc := ⟨.hbm, 127, rfl⟩
abbrev main_v59 : Ref sig .tc := ⟨.hbm, 128, rfl⟩
abbrev main_c_8 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_c : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_0 : Ref sig .tc := ⟨.hbm, 143, rfl⟩
abbrev main_call3_v12 : Ref sig .tc := ⟨.hbm, 144, rfl⟩
abbrev main_call3_v13 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_9 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68_0 : Ref sig .tc := ⟨.hbm, 155, rfl⟩
abbrev main_v68_1 : Ref sig .tc := ⟨.hbm, 156, rfl⟩
abbrev main_v68_2 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x4096x1024 : Shape := ⟨3, ![16, 4096, 1024]⟩
abbrev S1024 : Shape := ⟨1, ![1024]⟩
abbrev S16x1024 : Shape := ⟨2, ![16, 1024]⟩
abbrev S1024x1536 : Shape := ⟨2, ![1024, 1536]⟩
abbrev S64 : Shape := ⟨1, ![64]⟩
abbrev S64x64 : Shape := ⟨2, ![64, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x1536 : Shape := ⟨3, ![16, 4096, 1536]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x4096x256 : Shape := ⟨3, ![16, 4096, 256]⟩
abbrev S16x4096x4x64 : Shape := ⟨4, ![16, 4096, 4, 64]⟩
abbrev S16x4096x4 : Shape := ⟨3, ![16, 4096, 4]⟩
abbrev S16x4096x4x1 : Shape := ⟨4, ![16, 4096, 4, 1]⟩
abbrev S16x4096x16x32 : Shape := ⟨4, ![16, 4096, 16, 32]⟩
abbrev S1x4096x1x16 : Shape := ⟨4, ![1, 4096, 1, 16]⟩
abbrev S16x4096x16x16 : Shape := ⟨4, ![16, 4096, 16, 16]⟩
abbrev S16x4096x4x32 : Shape := ⟨4, ![16, 4096, 4, 32]⟩
abbrev S16x4096x4x16 : Shape := ⟨4, ![16, 4096, 4, 16]⟩

abbrev nBuf : Space → Nat
  | .hbm => 180
  | .vmem => 0
  | .smem => 0
  | _ => 0

abbrev hbmTy0_0 (i : Nat) : BufTy := match i % 128 with
  | 0 => ⟨S16x4096x1024, .f32⟩
  | 1 => ⟨S1024, .f32⟩
  | 2 => ⟨S16x1024, .f32⟩
  | 3 => ⟨S16x1024, .f32⟩
  | 4 => ⟨S1024x1536, .f32⟩
  | 5 => ⟨S64, .f32⟩
  | 6 => ⟨S64, .f32⟩
  | 7 => ⟨S64, .i32⟩
  | 8 => ⟨S64, .i32⟩
  | 9 => ⟨S64x64, .i32⟩
  | 10 => ⟨S64x64, .i32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4096, .i32⟩
  | 26 => ⟨S4096, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096, .i32⟩
  | 33 => ⟨S4096, .f32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S4096x16, .f32⟩
  | 43 => ⟨S16x4096x1024, .f32⟩
  | 44 => ⟨S_, .f32⟩
  | 45 => ⟨S16x4096, .f32⟩
  | 46 => ⟨S16x4096x1, .f32⟩
  | 47 => ⟨S_, .f32⟩
  | 48 => ⟨S16x4096x1, .f32⟩
  | 49 => ⟨S16x4096x1, .f32⟩
  | 50 => ⟨S_, .f32⟩
  | 51 => ⟨S16x4096x1, .f32⟩
  | 52 => ⟨S16x4096x1, .f32⟩
  | 53 => ⟨S16x4096x1, .f32⟩
  | 54 => ⟨S16x4096x1024, .f32⟩
  | 55 => ⟨S16x4096x1024, .f32⟩
  | 56 => ⟨S1x1x1024, .f32⟩
  | 57 => ⟨S16x4096x1024, .f32⟩
  | 58 => ⟨S16x4096x1024, .f32⟩
  | 59 => ⟨S16x1x1024, .f32⟩
  | 60 => ⟨S_, .f32⟩
  | 61 => ⟨S16x1x1024, .f32⟩
  | 62 => ⟨S16x1x1024, .f32⟩
  | 63 => ⟨S16x4096x1024, .f32⟩
  | 64 => ⟨S16x4096x1024, .f32⟩
  | 65 => ⟨S16x1x1024, .f32⟩
  | 66 => ⟨S16x4096x1024, .f32⟩
  | 67 => ⟨S16x4096x1024, .f32⟩
  | 68 => ⟨S16x4096x1536, .f32⟩
  | 69 => ⟨S16x4096x1024, .f32⟩
  | 70 => ⟨S16x4096x16x64, .f32⟩
  | 71 => ⟨S16x4096x16x64, .f32⟩
  | 72 => ⟨S_, .f32⟩
  | 73 => ⟨S16x4096x16, .f32⟩
  | 74 => ⟨S16x4096x16x1, .f32⟩
  | 75 => ⟨S_, .f32⟩
  | 76 => ⟨S16x4096x16x1, .f32⟩
  | 77 => ⟨S16x4096x16x1, .f32⟩
  | 78 => ⟨S_, .f32⟩
  | 79 => ⟨S16x4096x16x1, .f32⟩
  | 80 => ⟨S16x4096x16x1, .f32⟩
  | 81 => ⟨S16x4096x16x1, .f32⟩
  | 82 => ⟨S16x4096x16x64, .f32⟩
  | 83 => ⟨S16x4096x16x64, .f32⟩
  | 84 => ⟨S1x1x1x64, .f32⟩
  | 85 => ⟨S16x4096x16x64, .f32⟩
  | 86 => ⟨S16x4096x16x64, .f32⟩
  | 87 => ⟨S16x4096x256, .f32⟩
  | 88 => ⟨S16x4096x4x64, .f32⟩
  | 89 => ⟨S16x4096x4x64, .f32⟩
  | 90 => ⟨S_, .f32⟩
  | 91 => ⟨S16x4096x4, .f32⟩
  | 92 => ⟨S16x4096x4x1, .f32⟩
  | 93 => ⟨S_, .f32⟩
  | 94 => ⟨S16x4096x4x1, .f32⟩
  | 95 => ⟨S16x4096x4x1, .f32⟩
  | 96 => ⟨S_, .f32⟩
  | 97 => ⟨S16x4096x4x1, .f32⟩
  | 98 => ⟨S16x4096x4x1, .f32⟩
  | 99 => ⟨S16x4096x4x1, .f32⟩
  | 100 => ⟨S16x4096x4x64, .f32⟩
  | 101 => ⟨S16x4096x4x64, .f32⟩
  | 102 => ⟨S1x1x1x64, .f32⟩
  | 103 => ⟨S16x4096x4x64, .f32⟩
  | 104 => ⟨S16x4096x4x64, .f32⟩
  | 105 => ⟨S16x4096x16x32, .f32⟩
  | 106 => ⟨S1x4096x1x16, .f32⟩
  | 107 => ⟨S1x4096x1x16, .f32⟩
  | 108 => ⟨S16x4096x16x16, .f32⟩
  | 109 => ⟨S16x4096x16x16, .f32⟩
  | 110 => ⟨S16x4096x16x16, .f32⟩
  | 111 => ⟨S16x4096x16x16, .f32⟩
  | 112 => ⟨S16x4096x16x16, .f32⟩
  | 113 => ⟨S16x4096x16x16, .f32⟩
  | 114 => ⟨S16x4096x16x16, .f32⟩
  | 115 => ⟨S16x4096x16x16, .f32⟩
  | 116 => ⟨S16x4096x16x16, .f32⟩
  | 117 => ⟨S16x4096x16x16, .f32⟩
  | 118 => ⟨S16x4096x16x16, .f32⟩
  | 119 => ⟨S16x4096x16x16, .f32⟩
  | 120 => ⟨S16x4096x16x32, .f32⟩
  | 121 => ⟨S16x4096x16x32, .f32⟩
  | 122 => ⟨S1x4096x1x16, .f32⟩
  | 123 => ⟨S1x4096x1x16, .f32⟩
  | 124 => ⟨S16x4096x16x16, .f32⟩
  | 125 => ⟨S16x4096x16x16, .f32⟩
  | 126 => ⟨S16x4096x16x16, .f32⟩
  | 127 => ⟨S16x4096x16x16, .f32⟩
  | _ => ⟨S16x4096x1024, .f32⟩

abbrev hbmTy0_1 (i : Nat) : BufTy := match i % 128 with
  | 0 => ⟨S16x4096x16x16, .f32⟩
  | 1 => ⟨S16x4096x16x16, .f32⟩
  | 2 => ⟨S16x4096x16x16, .f32⟩
  | 3 => ⟨S16x4096x16x16, .f32⟩
  | 4 => ⟨S16x4096x16x16, .f32⟩
  | 5 => ⟨S16x4096x16x16, .f32⟩
  | 6 => ⟨S16x4096x16x16, .f32⟩
  | 7 => ⟨S16x4096x16x16, .f32⟩
  | 8 => ⟨S16x4096x16x32, .f32⟩
  | 9 => ⟨S16x4096x16x64, .f32⟩
  | 10 => ⟨S16x4096x4x32, .f32⟩
  | 11 => ⟨S1x4096x1x16, .f32⟩
  | 12 => ⟨S1x4096x1x16, .f32⟩
  | 13 => ⟨S16x4096x4x16, .f32⟩
  | 14 => ⟨S16x4096x4x16, .f32⟩
  | 15 => ⟨S16x4096x4x16, .f32⟩
  | 16 => ⟨S16x4096x4x16, .f32⟩
  | 17 => ⟨S16x4096x4x16, .f32⟩
  | 18 => ⟨S16x4096x4x16, .f32⟩
  | 19 => ⟨S16x4096x4x16, .f32⟩
  | 20 => ⟨S16x4096x4x16, .f32⟩
  | 21 => ⟨S16x4096x4x16, .f32⟩
  | 22 => ⟨S16x4096x4x16, .f32⟩
  | 23 => ⟨S16x4096x4x16, .f32⟩
  | 24 => ⟨S16x4096x4x16, .f32⟩
  | 25 => ⟨S16x4096x4x32, .f32⟩
  | 26 => ⟨S16x4096x4x32, .f32⟩
  | 27 => ⟨S1x4096x1x16, .f32⟩
  | 28 => ⟨S1x4096x1x16, .f32⟩
  | 29 => ⟨S16x4096x4x16, .f32⟩
  | 30 => ⟨S16x4096x4x16, .f32⟩
  | 31 => ⟨S16x4096x4x16, .f32⟩
  | 32 => ⟨S16x4096x4x16, .f32⟩
  | 33 => ⟨S16x4096x4x16, .f32⟩
  | 34 => ⟨S16x4096x4x16, .f32⟩
  | 35 => ⟨S16x4096x4x16, .f32⟩
  | 36 => ⟨S16x4096x4x16, .f32⟩
  | 37 => ⟨S16x4096x4x16, .f32⟩
  | 38 => ⟨S16x4096x4x16, .f32⟩
  | 39 => ⟨S16x4096x4x16, .f32⟩
  | 40 => ⟨S16x4096x4x16, .f32⟩
  | 41 => ⟨S16x4096x4x32, .f32⟩
  | 42 => ⟨S16x4096x4x64, .f32⟩
  | 43 => ⟨S_, .f32⟩
  | 44 => ⟨S16x4096x16x64, .f32⟩
  | 45 => ⟨S16x4096x16x64, .f32⟩
  | 46 => ⟨S16x4096x1024, .f32⟩
  | 47 => ⟨S16x4096x1024, .bf16⟩
  | 48 => ⟨S16x4096x256, .f32⟩
  | 49 => ⟨S16x4096x256, .bf16⟩
  | 50 => ⟨S16x4096x256, .f32⟩
  | 51 => ⟨S16x4096x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_13 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024x1024 : Shape := ⟨2, ![1024, 1024]⟩
abbrev S16x1024 : Shape := ⟨2, ![16, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1x1024 : Shape := ⟨3, ![16, 1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16x4096x128 : Shape := ⟨3, ![16, 4096, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 45
  | .vmem => 21
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S16x1024, .f32⟩
  | .hbm, ⟨4, _⟩ => ⟨S1024, .f32⟩
  | .hbm, ⟨5, _⟩ => ⟨S16x1024, .f32⟩
  | .hbm, ⟨6, _⟩ => ⟨S16x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S1024x1024, .bf16⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1024x128, .bf16⟩
  | .hbm, ⟨38, _⟩ => ⟨S1024x128, .f32⟩
  | .hbm, ⟨39, _⟩ => ⟨S1024x128, .f32⟩
  | .hbm, ⟨40, _⟩ => ⟨S1024x128, .bf16⟩
  | .hbm, ⟨41, _⟩ => ⟨S1x1024, .f32⟩
  | .hbm, ⟨42, _⟩ => ⟨S16x4096x1024, .f32⟩
  | .hbm, ⟨43, _⟩ => ⟨S16x4096x1024, .bf16⟩
  | .hbm, ⟨44, _⟩ => ⟨S16x4096x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x128, .f32⟩
  | .local _ .vmem, ⟨20, _⟩ => ⟨S1x512x128, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16x4096x1024 : Shape := ⟨3, ![16, 4096, 1024]⟩
abbrev S1024x1024 : Shape := ⟨2, ![1024, 1024]⟩
abbrev S16x1024 : Shape := ⟨2, ![16, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S16x1024, .f32⟩
  | .hbm, ⟨4, _⟩ => ⟨S1024, .f32⟩
  | .hbm, ⟨5, _⟩ => ⟨S16x1024, .f32⟩
  | .hbm, ⟨6, _⟩ => ⟨S16x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S16x1x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S16x1x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x4096x1024, .f32⟩
  | .hbm, ⟨38, _⟩ => ⟨S16x4096x1024, .f32⟩
  | .hbm, ⟨39, _⟩ => ⟨S16x1x1024, .f32⟩
  | .hbm, ⟨40, _⟩ => ⟨S16x4096x1024, .f32⟩
  | .hbm, ⟨41, _⟩ => ⟨S16x4096x1024, .f32⟩
  | .hbm, ⟨42, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel5.lean ====
abbrev S16x4096x512 : Shape := ⟨3, ![16, 4096, 512]⟩
abbrev S1024x1024 : Shape := ⟨2, ![1024, 1024]⟩
abbrev S16x4096x1024 : Shape := ⟨3, ![16, 4096, 1024]⟩
abbrev S16x1024 : Shape := ⟨2, ![16, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512x1024 : Shape := ⟨2, ![512, 1024]⟩
abbrev S16x1x1024 : Shape := ⟨3, ![16, 1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16x4096x128 : Shape := ⟨3, ![16, 4096, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 48
  | .vmem => 24
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .bf16⟩
  | .hbm, ⟨2, _⟩ => ⟨S1024x1024, .f32⟩
  | .hbm, ⟨3, _⟩ => ⟨S16x4096x1024, .f32⟩
  | .hbm, ⟨4, _⟩ => ⟨S16x1024, .f32⟩
  | .hbm, ⟨5, _⟩ => ⟨S1024, .f32⟩
  | .hbm, ⟨6, _⟩ => ⟨S16x1024, .f32⟩
  | .hbm, ⟨7, _⟩ => ⟨S16x1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x1024, .bf16⟩
  | .hbm, ⟨13, _⟩ => ⟨S512x1024, .bf16⟩
  | .hbm, ⟨14, _⟩ => ⟨S512x1024, .bf16⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S_, .f32⟩
  | .hbm, ⟨19, _⟩ => ⟨S1024x128, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S1024x128, .bf16⟩
  | .hbm, ⟨41, _⟩ => ⟨S1024x128, .f32⟩
  | .hbm, ⟨42, _⟩ => ⟨S1024x128, .f32⟩
  | .hbm, ⟨43, _⟩ => ⟨S1024x128, .bf16⟩
  | .hbm, ⟨44, _⟩ => ⟨S1x1024, .f32⟩
  | .hbm, ⟨45, _⟩ => ⟨S16x4096x1024, .f32⟩
  | .hbm, ⟨46, _⟩ => ⟨S16x4096x1024, .bf16⟩
  | .hbm, ⟨47, _⟩ => ⟨S16x4096x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .f32⟩
  | .local _ .vmem, ⟨23, _⟩ => ⟨S1x512x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S16x4096x512 : Shape := ⟨3, ![16, 4096, 512]⟩
abbrev S1024x1024 : Shape := ⟨2, ![1024, 1024]⟩
abbrev S16x4096x1024 : Shape := ⟨3, ![16, 4096, 1024]⟩
abbrev S16x1024 : Shape := ⟨2, ![16, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .bf16⟩
  | .hbm, ⟨2, _⟩ => ⟨S1024x1024, .f32⟩
  | .hbm, ⟨3, _⟩ => ⟨S16x4096x1024, .f32⟩
  | .hbm, ⟨4, _⟩ => ⟨S16x1024, .f32⟩
  | .hbm, ⟨5, _⟩ => ⟨S1024, .f32⟩
  | .hbm, ⟨6, _⟩ => ⟨S16x1024, .f32⟩
  | .hbm, ⟨7, _⟩ => ⟨S16x1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S16x1x1024, .f32⟩
  | .hbm, ⟨13, _⟩ => ⟨S16x4096x512, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S16x1x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x4096x1024, .f32⟩
  | .hbm, ⟨40, _⟩ => ⟨S16x4096x1024, .f32⟩
  | .hbm, ⟨41, _⟩ => ⟨S16x1x1024, .f32⟩
  | .hbm, ⟨42, _⟩ => ⟨S16x4096x1024, .f32⟩
  | .hbm, ⟨43, _⟩ => ⟨S16x4096x1024, .f32⟩
  | .hbm, ⟨44, _⟩ => ⟨S16x4096x1024, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.ProjMath.lean ====
/- The input projection of the even layer in plain words: the normalised and modulated row, its projection,
   and the rotation of a head's lanes by the angles of the row's place in the grid. -/
module

public import Idealize.ShloMosaic.Lib.Pointwise
public import Idealize.ShloMosaic.PureOps.Ideal

@[expose] public section

noncomputable section

namespace Cert.Proj

open Idealize.ShloMosaic

/-- A lane of a row normalised by its mean square, scaled, and modulated. -/
def modulated (x : Fin 1024 → EReal) (g sc sh : Fin 1024 → EReal) (d : Fin 1024) : EReal :=
  x d * Ideal.rsqrt (Ideal.div (∑ e : Fin 1024, x e * x e) (Ideal.ofBits .f32 0x44800000#32) + Ideal.ofBits .f32 0x358637BD#32)
    * g d * (Ideal.ofBits .f32 0x3F800000#32 + sc d) + sh d

/-- A column of a row's projection. -/
def proj (x : Fin 1024 → EReal) (g sc sh : Fin 1024 → EReal) (w : Fin 1024 → EReal) : EReal :=
  ∑ d : Fin 1024, modulated x g sc sh d * w d

/-- The frequency of a pair of lanes. -/
def freq (j : Fin 16) : EReal :=
  Ideal.pow (Ideal.ofBits .f32 0x461C4000#32)
    (Ideal.div (-(Ideal.ofBits .f32 0x00000000#32 + Ideal.ofBits .f32 0x40000000#32 * ((j.val : ℝ) : EReal))) (Ideal.ofBits .f32 0x42000000#32))

/-- The angle of row `n` for lane `l` of a head: the first 32 lanes go by the grid's row, the others by its column. -/
def angle (n : Fin 4096) (l : Fin 64) : EReal :=
  (((if l.val < 32 then n.val / 64 else n.val % 64 : ℕ) : ℝ) : EReal) * freq ⟨l.val % 16, by omega⟩

/-- A head's lane after the rotation: lanes are paired at distance 16 within each half of the head. -/
def rotated (n : Fin 4096) (f : Fin 64 → EReal) (l : Fin 64) : EReal :=
  if h : l.val % 32 < 16 then f l * Ideal.cos (angle n l) - f ⟨l.val + 16, by omega⟩ * Ideal.sin (angle n l)
  else f l * Ideal.cos (angle n l) + f ⟨l.val - 16, by omega⟩ * Ideal.sin (angle n l)

/-- The rotation with its cases told apart: by halves of the head, and by halves of those. -/
theorem rotated_cases (n : Fin 4096) (f : Fin 64 → EReal) (ar ac : Fin 16 → EReal)
    (har : ∀ j, ar j = (((n.val / 64 : ℕ) : ℝ) : EReal) * freq j) (hac : ∀ j, ac j = (((n.val % 64 : ℕ) : ℝ) : EReal) * freq j) (l : Fin 64) :
    (if h₁ : l.val < 32 then
      if h₂ : l.val < 16 then f l * Ideal.cos (ar ⟨l.val, h₂⟩) - f ⟨16 + l.val, by omega⟩ * Ideal.sin (ar ⟨l.val, h₂⟩)
      else f ⟨16 + (l.val - 16), by omega⟩ * Ideal.cos (ar ⟨l.val - 16, by omega⟩) + f ⟨l.val - 16, by omega⟩ * Ideal.sin (ar ⟨l.val - 16, by omega⟩)
    else
      if h₂ : l.val - 32 < 16 then
        f ⟨32 + (l.val - 32), by omega⟩ * Ideal.cos (ac ⟨l.val - 32, h₂⟩) - f ⟨32 + (16 + (l.val - 32)), by omega⟩ * Ideal.sin (ac ⟨l.val - 32, h₂⟩)
      else
        f ⟨32 + (16 + (l.val - 32 - 16)), by omega⟩ * Ideal.cos (ac ⟨l.val - 32 - 16, by omega⟩)
          + f ⟨32 + (l.val - 32 - 16), by omega⟩ * Ideal.sin (ac ⟨l.val - 32 - 16, by omega⟩))
      = rotated n f l := by
  have er : ∀ j : Fin 16, l.val < 32 → j.val = l.val % 16 → ar j = angle n l := by
    intro j h hj
    unfold angle
    rw [har, if_pos h, (Fin.ext hj : j = ⟨l.val % 16, by omega⟩)]
  have ec : ∀ j : Fin 16, ¬ l.val < 32 → j.val = l.val % 16 → ac j = angle n l := by
    intro j h hj
    unfold angle
    rw [hac, if_neg h, (Fin.ext hj : j = ⟨l.val % 16, by omega⟩)]
  have key : ∀ (op : EReal → EReal → EReal) (i₁ i₂ j₁ j₂ : Fin 64) (a b : EReal), i₁.val = j₁.val → i₂.val = j₂.val → a = b →
      op (f i₁ * Ideal.cos a) (f i₂ * Ideal.sin a) = op (f j₁ * Ideal.cos b) (f j₂ * Ideal.sin b) := by
    intro op i₁ i₂ j₁ j₂ a b h₁ h₂ h
    rw [Fin.ext h₁, Fin.ext h₂, h]
  unfold rotated
  split
  · rename_i h₁
    split
    · rename_i h₂
      rw [dif_pos (by omega)]
      exact key (· - ·) _ _ _ _ _ _ rfl (by dsimp only; omega) (er _ h₁ (by dsimp only; omega))
    · rename_i h₂
      rw [dif_neg (by omega)]
      exact key (· + ·) _ _ _ _ _ _ (by dsimp only; omega) rfl (er _ h₁ (by dsimp only; omega))
  · rename_i h₁
    split
    · rename_i h₂
      rw [dif_pos (by omega)]
      exact key (· - ·) _ _ _ _ _ _ (by dsimp only; omega) (by dsimp only; omega) (ec _ h₁ (by dsimp only; omega))
    · rename_i h₂
      rw [dif_neg (by omega)]
      exact key (· + ·) _ _ _ _ _ _ (by dsimp only; omega) (by dsimp only; omega) (ec _ h₁ (by dsimp only; omega))

/-- A small word read as an integer. -/
theorem int_word (k : ℕ) (h : k < 4096) : (FloatOps.sitofp FTy.f32 (BitVec.ofNat 32 k) : Ideal .f32) = ((k : ℝ) : EReal) := by
  have e : (BitVec.ofNat 32 k).toInt = (k : ℤ) := by
    rw [BitVec.toInt_ofNat']
    rw [Int.bmod_eq_of_le] <;> omega
  show (((BitVec.ofNat 32 k).toInt : ℝ) : EReal) = _
  rw [e]
  norm_cast

end Cert.Proj

end
-- ==== Proof.OutMath.lean ====
/- The output projection in plain words: a row of mixed tokens projected, gated and added to the stream. -/
module

public import proofs.«01_k».proof.Proof.ProjMath

@[expose] public section

noncomputable section

namespace Cert.Proj

open Idealize.ShloMosaic

/-- A lane of the stream after a gated column of a projection is added to it. -/
def mixed (x gate : EReal) (a w : Fin 1024 → EReal) : EReal := x + gate * ∑ e : Fin 1024, a e * w e

/-- Two halves of a row side by side. -/
def joined (f g : Fin 512 → EReal) (e : Fin 1024) : EReal :=
  if h : e.val < 512 then f ⟨e.val, h⟩ else g ⟨e.val - 512, by omega⟩

/-- The projection of a row is the sum of those of its halves. -/
theorem sum_joined (f g : Fin 512 → EReal) (w : Fin 1024 → EReal) :
    ∑ e : Fin 1024, joined f g e * w e = (∑ e : Fin 512, f e * w ⟨e.val, by omega⟩) + ∑ e : Fin 512, g e * w ⟨512 + e.val, by omega⟩ := by
  rw [Fin.sum_univ_add (a := 512) (b := 512) (fun e : Fin 1024 => joined f g e * w e)]
  refine congrArg₂ (· + ·) (Finset.sum_congr rfl fun e _ => ?_) (Finset.sum_congr rfl fun e _ => ?_)
  · have h : (Fin.castAdd 512 e).val < 512 := e.isLt
    unfold joined
    rw [dif_pos h]
    rfl
  · have h : ¬ (Fin.natAdd 512 e).val < 512 := by simp
    unfold joined
    rw [dif_neg h]
    exact congrArg (· * _) (congrArg g (Fin.ext (by simp)))

end Cert.Proj

end
-- ==== Proof.OutOddFinal.lean ====
/- The odd layer's output projection: what a grid point leaves in its blocks of the stream and of the normed stream, and the
   arrays they are blocks of. -/
module

public import proofs.«01_k».proof.Proof.Gen.Kernel4Ideal.Value
public import proofs.«01_k».proof.Proof.OutMath
public import Idealize.ShloMosaic.Lib.Pipeline.ValueKit
public import Idealize.ShloMosaic.Lib.Pipeline.Value
public import Idealize.ShloMosaic.Lib.Pointwise
public import Idealize.ShloMosaic.Lib.Tactic.CleanTypes
public import Idealize.ShloMosaic.Lib.Claim
public import Idealize.ShloMosaic.Lib.StableHlo.ReadAt

@[expose] public section

set_option maxRecDepth 16384

noncomputable section

namespace Cert.Kernel4Ideal.Out

open Cert.Kernel4Ideal Cert.Kernel4Ideal.Gen Cert.Kernel4Ideal.Value Idealize.ShloMosaic Idealize.ShloMosaic.TcCoe Idealize.SL.Sem Cert.Proj

section Block
variable (z0 : Vec Ideal S1x512x1024 .bf16) (z1 : Vec Ideal S1024x1024 .bf16) (z2 : Vec Ideal S1x512x1024 .f32)
  (z3 : Vec Ideal S1x1x1024 .f32) (z4 : Vec Ideal S1x1024 .f32) (z5 z6 : Vec Ideal S1x1x1024 .f32) (z7 z8 : Vec Ideal S1024x128 .bf16) (z9 : Vec Ideal S1x128 .f32)

/-- A lane of row `r` of the block's stream. -/
def lane (r : Fin 512) (d : Fin 1024) : EReal :=
  mixed (z2 (ix3 0 r d)) (z3 (ix3 0 0 d)) (fun e => z0 (ix3 0 r e)) (fun e => z1 (ix2 e d))

theorem lane_at (r : Fin 512) (d : Fin 1024) : k0_pay2 (F := Ideal) z0 z1 z2 z3 (ix2 r d) = lane z0 z1 z2 z3 r d := by
  pointwise [k0_pay2, lane, mixed]

theorem normed_at (r : Fin 512) (d : Fin 1024) :
    k0_pay6 (F := Ideal) (k0_pay4 z0 z1 z2 z3 z4) (k0_pay5 z5) z6 (ix2 r d)
      = modulated (fun e => lane z0 z1 z2 z3 r e) (fun e => z4 (ix2 0 e)) (fun e => z5 (ix3 0 0 e)) (fun e => z6 (ix3 0 0 e)) d := by
  pointwise [k0_pay6, k0_pay5, k0_pay4, lane_at, modulated]

theorem out10 (y0 : Fin 1) (r : Fin 512) (d : Fin 1024) :
    out0_10 (F := Ideal) z0 z1 z2 z3 z4 z5 z6 z7 z8 z9 (ix3 y0 r d) = lane z0 z1 z2 z3 r d := by
  unfold_out out0_10
  canon_tiles x h
  idx_vars x
  obtain rfl : r = x1 := Fin.ext h1
  obtain rfl : d = x2 := Fin.ext h2
  pointwise [k0_pay3, lane_at, lane, mixed]

theorem out11 (y0 : Fin 1) (r : Fin 512) (d : Fin 1024) :
    out0_11 (F := Ideal) z0 z1 z2 z3 z4 z5 z6 z7 z8 z9 (ix3 y0 r d)
      = modulated (fun e => lane z0 z1 z2 z3 r e) (fun e => z4 (ix2 0 e)) (fun e => z5 (ix3 0 0 e)) (fun e => z6 (ix3 0 0 e)) d := by
  unfold_out out0_11
  canon_tiles x h
  idx_vars x
  obtain rfl : r = x1 := Fin.ext h1
  obtain rfl : d = x2 := Fin.ext h2
  pointwise [k0_pay8, k0_pay7, normed_at, lane, mixed]

end Block

section Arrays
variable (m : (ℓ : Loc nD τ sig) → Buf (Elt Ideal) ℓ) (c : Dev nD)

/-! The arrays the call reads that are made by host operations. -/

theorem weight_at (a : FVec Ideal S1024x1024 .f32) (h : m ((c.tc : Thread nD τ).loc main_arg1) = a) (d l : Fin 1024) :
    (V m c main_v0 : FVec Ideal S1024x1024 .bf16) (ix2 d l) = a (ix2 d l) := by
  subst h
  unfold V
  after_reads_at

theorem gate_at (a : FVec Ideal S16x1024 .f32) (h : m ((c.tc : Thread nD τ).loc main_arg3) = a) (b : Fin 16) (d : Fin 1024) :
    (V m c main_v1 : FVec Ideal S16x1x1024 .f32) (ix3 b 0 d) = a (ix2 b d) := by
  subst h
  unfold V
  after_reads_at

theorem gain_at (a : FVec Ideal S1024 .f32) (h : m ((c.tc : Thread nD τ).loc main_arg4) = a) (d : Fin 1024) :
    (V m c main_v22 : FVec Ideal S1x1024 .f32) (ix2 0 d) = a (ix1 d) := by
  subst h
  unfold V
  after_reads_at

theorem scale_at (a : FVec Ideal S16x1024 .f32) (h : m ((c.tc : Thread nD τ).loc main_arg5) = a) (b : Fin 16) (d : Fin 1024) :
    (V m c main_v2 : FVec Ideal S16x1x1024 .f32) (ix3 b 0 d) = a (ix2 b d) := by
  subst h
  unfold V
  after_reads_at

theorem shift_at (a : FVec Ideal S16x1024 .f32) (h : m ((c.tc : Thread nD τ).loc main_arg6) = a) (b : Fin 16) (d : Fin 1024) :
    (V m c main_v3 : FVec Ideal S16x1x1024 .f32) (ix3 b 0 d) = a (ix2 b d) := by
  subst h
  unfold V
  after_reads_at

end Arrays

/-! The blocks of a grid point, of any array. -/

/-- Where the windows stand at a grid point: batch `t / 8`, rows from `512 (t % 8)`. -/
theorem idx : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![t.val / 8, 0, 0] ∧ win0_6.index t = ![t.val / 8, 0, 0]
    ∧ win0_10.index t = ![t.val / 8, t.val % 8, 0] ∧ win0_11.index t = ![t.val / 8, t.val % 8, 0] ∧ t.val < 128 :=
  (by decide +kernel : ∀ t : Fin grid0.N, _)

theorem a_read (A : FVec Ideal S16x4096x1024 .bf16) (t : Fin cfg0.N) (ht : t.val < 128) (r : Fin 512) (d : Fin 1024) :
    (((cfg0.win 0).blk t).view.read (Elt Ideal) A : FVec Ideal S1x512x1024 .bf16) (ix3 0 r d)
      = A (ix3 ⟨t.val / 8, by omega⟩ ⟨t.val % 8 * 512 + r.val, by omega⟩ d) := by
  blk_ext [idx t]

theorem w_read (A : FVec Ideal S1024x1024 .bf16) (t : Fin cfg0.N) (d l : Fin 1024) :
    (((cfg0.win 1).blk t).view.read (Elt Ideal) A : FVec Ideal S1024x1024 .bf16) (ix2 d l) = A (ix2 d l) := by
  blk_ext [idx t]

theorem x_read (A : FVec Ideal S16x4096x1024 .f32) (t : Fin cfg0.N) (ht : t.val < 128) (r : Fin 512) (d : Fin 1024) :
    (((cfg0.win 2).blk t).view.read (Elt Ideal) A : FVec Ideal S1x512x1024 .f32) (ix3 0 r d)
      = A (ix3 ⟨t.val / 8, by omega⟩ ⟨t.val % 8 * 512 + r.val, by omega⟩ d) := by
  blk_ext [idx t]

theorem gate_read (A : FVec Ideal S16x1x1024 .f32) (t : Fin cfg0.N) (ht : t.val < 128) (d : Fin 1024) :
    (((cfg0.win 3).blk t).view.read (Elt Ideal) A : FVec Ideal S1x1x1024 .f32) (ix3 0 0 d) = A (ix3 ⟨t.val / 8, by omega⟩ 0 d) := by
  blk_ext [idx t]

theorem g_read (A : FVec Ideal S1x1024 .f32) (t : Fin cfg0.N) (d : Fin 1024) :
    (((cfg0.win 4).blk t).view.read (Elt Ideal) A : FVec Ideal S1x1024 .f32) (ix2 0 d) = A (ix2 0 d) := by
  blk_ext [idx t]

theorem sc_read (A : FVec Ideal S16x1x1024 .f32) (t : Fin cfg0.N) (ht : t.val < 128) (d : Fin 1024) :
    (((cfg0.win 5).blk t).view.read (Elt Ideal) A : FVec Ideal S1x1x1024 .f32) (ix3 0 0 d) = A (ix3 ⟨t.val / 8, by omega⟩ 0 d) := by
  blk_ext [idx t]

theorem sh_read (A : FVec Ideal S16x1x1024 .f32) (t : Fin cfg0.N) (ht : t.val < 128) (d : Fin 1024) :
    (((cfg0.win 6).blk t).view.read (Elt Ideal) A : FVec Ideal S1x1x1024 .f32) (ix3 0 0 d) = A (ix3 ⟨t.val / 8, by omega⟩ 0 d) := by
  blk_ext [idx t]

section Final
variable (a : FVec Ideal S16x4096x1024 .bf16) (w : FVec Ideal S1024x1024 .f32) (x : FVec Ideal S16x4096x1024 .f32) (gate : FVec Ideal S16x1024 .f32)
  (g : FVec Ideal S1024 .f32) (sc sh : FVec Ideal S16x1024 .f32)

/-- The stream after the projection is added. -/
def xArr : FVec Ideal S16x4096x1024 .f32 := fun y =>
  mixed (x y) (gate (ix2 (y 0) (y 2))) (fun e => a (ix3 (y 0) (y 1) e)) (fun e => w (ix2 e (y 2)))

/-- The stream normed and modulated. -/
def hArr : FVec Ideal S16x4096x1024 .bf16 := fun y =>
  modulated (fun d => xArr a w x gate (ix3 (y 0) (y 1) d)) (fun d => g (ix1 d)) (fun d => sc (ix2 (y 0) d)) (fun d => sh (ix2 (y 0) d)) (y 2)

variable (m : (ℓ : Loc nD τ sig) → Buf (Elt Ideal) ℓ) (c : Dev nD)
variable (h0 : m ((c.tc : Thread nD τ).loc main_arg0) = a) (h1 : m ((c.tc : Thread nD τ).loc main_arg1) = w)
  (h2 : m ((c.tc : Thread nD τ).loc main_arg2) = x) (h3 : m ((c.tc : Thread nD τ).loc main_arg3) = gate)
  (h4 : m ((c.tc : Thread nD τ).loc main_arg4) = g) (h5 : m ((c.tc : Thread nD τ).loc main_arg5) = sc)
  (h6 : m ((c.tc : Thread nD τ).loc main_arg6) = sh)

include h0 h1 h2 h3

/-- A lane of a grid point's block is the array's. -/
theorem lane_eq (t : Fin cfg0.N) (ht : t.val < 128) (r : Fin 512) (d : Fin 1024) :
    lane (iblk m c 0 t) (iblk m c 1 t) (iblk m c 2 t) (iblk m c 3 t) r d
      = xArr a w x gate (ix3 ⟨t.val / 8, by omega⟩ ⟨t.val % 8 * 512 + r.val, by omega⟩ d) := by
  have e0 : ∀ e, iblk m c 0 t (ix3 0 r e) = a (ix3 ⟨t.val / 8, by omega⟩ ⟨t.val % 8 * 512 + r.val, by omega⟩ e) :=
    fun e => (a_read (V m c main_arg0) t ht r e).trans (congrFun ((V_main_arg0 m c).trans h0) _)
  have e1 : ∀ e, iblk m c 1 t (ix2 e d) = w (ix2 e d) := fun e => (w_read (V m c main_v0) t e d).trans (weight_at m c w h1 e d)
  have e2 : iblk m c 2 t (ix3 0 r d) = x (ix3 ⟨t.val / 8, by omega⟩ ⟨t.val % 8 * 512 + r.val, by omega⟩ d) :=
    (x_read (V m c main_arg2) t ht r d).trans (congrFun ((V_main_arg2 m c).trans h2) _)
  have e3 : iblk m c 3 t (ix3 0 0 d) = gate (ix2 ⟨t.val / 8, by omega⟩ d) := (gate_read (V m c main_v1) t ht d).trans (gate_at m c gate h3 _ d)
  exact congr (congr (congrArg₂ mixed e2 e3) (funext e0)) (funext e1)

/-- The stream after the run. -/
theorem final_x : (dats m 0 c).arrAt 10 cfg0.N = xArr a w x gate := by
  refine (dats m 0 c).arrAt_eq_of_covers 10 _ (by decide +kernel) fun t hf y => ?_
  blk_simp
  rw [after0_10]
  have ht : t.val < 128 := (idx t).2.2.2.2.2.2.2.2.2
  idx_vars y
  refine (out10 ..).trans ?_
  refine (lane_eq a w x gate m c h0 h1 h2 h3 t ht y1 y2).trans ?_
  blk_ext [idx t]

include h4 h5 h6

/-- The normed stream after the run. -/
theorem final_h : (dats m 0 c).arrAt 11 cfg0.N = hArr a w x gate g sc sh := by
  refine (dats m 0 c).arrAt_eq_of_covers 11 _ (by decide +kernel) fun t hf y => ?_
  blk_simp
  rw [after0_11]
  have ht : t.val < 128 := (idx t).2.2.2.2.2.2.2.2.2
  idx_vars y
  refine (out11 ..).trans ?_
  have e4 : ∀ d, iblk m c 4 t (ix2 0 d) = g (ix1 d) := fun d => (g_read (V m c main_v22) t d).trans (gain_at m c g h4 d)
  have e5 : ∀ d, iblk m c 5 t (ix3 0 0 d) = sc (ix2 ⟨t.val / 8, by omega⟩ d) := fun d => (sc_read (V m c main_v2) t ht d).trans (scale_at m c sc h5 _ d)
  have e6 : ∀ d, iblk m c 6 t (ix3 0 0 d) = sh (ix2 ⟨t.val / 8, by omega⟩ d) := fun d => (sh_read (V m c main_v3) t ht d).trans (shift_at m c sh h6 _ d)
  refine (congrFun (congr (congr (congr (congrArg modulated (funext fun d => lane_eq a w x gate m c h0 h1 h2 h3 t ht y1 d)) (funext e4)) (funext e5)) (funext e6)) y2).trans ?_
  refine (rfl : _ = hArr a w x gate g sc sh (ix3 ⟨t.val / 8, by omega⟩ ⟨t.val % 8 * 512 + y1.val, by omega⟩ y2)).trans ?_
  blk_ext [idx t]

end Final

end Cert.Kernel4Ideal.Out

end
-- ==== Proof.OutOddEquation.lean ====
/- The equation of the odd layer's output projection with its reference. -/
module

public import proofs.«01_k».proof.Proof.OutOddFinal
public import proofs.«01_k».proof.Proof.Gen.Reference4Ideal.Run

@[expose] public section

set_option maxRecDepth 16384

noncomputable section

namespace Cert.Reference4Ideal.Out

open Cert.Reference4Ideal Cert.Reference4Ideal.Gen Idealize.ShloMosaic Cert.Proj

/-- The reference's stream after the projection is added. -/
def stream (a : FVec Ideal S16x4096x1024 .bf16) (w : FVec Ideal S1024x1024 .f32) (x : FVec Ideal S16x4096x1024 .f32) (gate : FVec Ideal S16x1024 .f32) :
    FVec Ideal S16x4096x1024 .f32 :=
  addf x
    (mulf
      (broadcastInDim S16x4096x1024 ![0, 1, 2] bcast_S16x1x1024_S16x4096x1024_0_1_2 (broadcastInDim S16x1x1024 ![0, 2] bcast_S16x1024_S16x1x1024_0_2 gate))
      (Host.dotGeneral dot_S16x4096x1024_S1024x1024_S16x4096x1024_2_0_01_1_n_n none (extf .f32 a bitsLt_bf16_f32) w))

/-- The norm of a stream, modulated. -/
def normed (x : FVec Ideal S16x4096x1024 .f32) (g : FVec Ideal S1024 .f32) (sc sh : FVec Ideal S16x1024 .f32) : FVec Ideal S16x4096x1024 .bf16 :=
  truncf .bf16
    (addf
      (mulf
        (mulf
          (mulf x
            (broadcastInDim S16x4096x1024 ![0, 1, 2] bcast_S16x4096x1_S16x4096x1024_0_1_2
              (Host.rsqrt
                (addf
                  (Host.divf
                    (broadcastInDim S16x4096x1 ![0, 1] bcast_S16x4096_S16x4096x1_0_1
                      (Host.reduceAdd (mulf x x) (constant S_ .f32 0x00000000#32) reducesTo_S16x4096x1024_S16x4096_d2 h_S_))
                    (broadcastInDim S16x4096x1 ![] bcast_S_S16x4096x1 (constant S_ .f32 0x44800000#32)))
                  (broadcastInDim S16x4096x1 ![] bcast_S_S16x4096x1 (constant S_ .f32 0x358637BD#32))))))
          (broadcastInDim S16x4096x1024 ![0, 1, 2] bcast_S1x1x1024_S16x4096x1024_0_1_2 (broadcastInDim S1x1x1024 ![2] bcast_S1024_S1x1x1024_2 g)))
        (broadcastInDim S16x4096x1024 ![0, 1, 2] bcast_S16x1x1024_S16x4096x1024_0_1_2
          (addf (broadcastInDim S16x1x1024 ![] bcast_S_S16x1x1024 (constant S_ .f32 0x3F800000#32))
            (broadcastInDim S16x1x1024 ![0, 2] bcast_S16x1024_S16x1x1024_0_2 sc))))
      (broadcastInDim S16x4096x1024 ![0, 1, 2] bcast_S16x1x1024_S16x4096x1024_0_1_2
        (broadcastInDim S16x1x1024 ![0, 2] bcast_S16x1024_S16x1x1024_0_2 sh)))
    bitsLt_bf16_f32

variable (a : FVec Ideal S16x4096x1024 .bf16) (w : FVec Ideal S1024x1024 .f32) (x : FVec Ideal S16x4096x1024 .f32) (gate : FVec Ideal S16x1024 .f32)
  (g : FVec Ideal S1024 .f32) (sc sh : FVec Ideal S16x1024 .f32)

/-- The stream agrees. -/
theorem stream_eq : stream a w x gate = Cert.Kernel4Ideal.Out.xArr a w x gate := by
  funext y
  idx_vars y
  pointwise [stream, Cert.Kernel4Ideal.Out.xArr, mixed]

theorem normed_at (b : Fin 16) (n : Fin 4096) (d : Fin 1024) :
    normed x g sc sh (ix3 b n d)
      = modulated (fun d => x (ix3 b n d)) (fun d => g (ix1 d)) (fun d => sc (ix2 b d)) (fun d => sh (ix2 b d)) d := by
  pointwise [normed, modulated]

/-- The normed stream agrees. -/
theorem normed_eq : normed (stream a w x gate) g sc sh = Cert.Kernel4Ideal.Out.hArr a w x gate g sc sh := by
  funext y
  idx_vars y
  rw [stream_eq]
  exact normed_at _ g sc sh y0 y1 y2

end Cert.Reference4Ideal.Out

end
-- ==== Proof.OutEvenFinal.lean ====
/- The even layer's output projection: what a grid point leaves in its blocks of the stream and of the normed stream, and the
   arrays they are blocks of. -/
module

public import proofs.«01_k».proof.Proof.Gen.Kernel5Ideal.Value
public import proofs.«01_k».proof.Proof.OutMath
public import Idealize.ShloMosaic.Lib.Pipeline.ValueKit
public import Idealize.ShloMosaic.Lib.Pipeline.Value
public import Idealize.ShloMosaic.Lib.Pointwise
public import Idealize.ShloMosaic.Lib.Tactic.CleanTypes
public import Idealize.ShloMosaic.Lib.Claim
public import Idealize.ShloMosaic.Lib.StableHlo.ReadAt

@[expose] public section

set_option maxRecDepth 16384

noncomputable section

namespace Cert.Kernel5Ideal.Out

open Cert.Kernel5Ideal Cert.Kernel5Ideal.Gen Cert.Kernel5Ideal.Value Idealize.ShloMosaic Idealize.ShloMosaic.TcCoe Idealize.SL.Sem Cert.Proj

section Block
variable (z0 : Vec Ideal S1x512x512 .f32) (z1 : Vec Ideal S1x512x512 .bf16) (z2 z3 : Vec Ideal S512x1024 .bf16) (z4 : Vec Ideal S1x512x1024 .f32)
  (z5 : Vec Ideal S1x1x1024 .f32) (z6 : Vec Ideal S1x1024 .f32) (z7 z8 : Vec Ideal S1x1x1024 .f32) (z9 z10 : Vec Ideal S1024x128 .bf16) (z11 : Vec Ideal S1x128 .f32)

/-- A lane of row `r` of the block's stream: the two halves of the row are projected apart. -/
def lane (r : Fin 512) (d : Fin 1024) : EReal :=
  z4 (ix3 0 r d) + z5 (ix3 0 0 d) * ((∑ e : Fin 512, z0 (ix3 0 r e) * z2 (ix2 e d)) + ∑ e : Fin 512, z1 (ix3 0 r e) * z3 (ix2 e d))

theorem lane_at (r : Fin 512) (d : Fin 1024) : k0_pay1 (F := Ideal) z0 z2 z1 z3 z4 z5 (ix2 r d) = lane z0 z1 z2 z3 z4 z5 r d := by
  pointwise [k0_pay1, lane]

theorem normed_at (r : Fin 512) (d : Fin 1024) :
    k0_pay4 (F := Ideal) (k0_pay3 z0 z2 z1 z3 z4 z5) z6 z7 z8 (ix2 r d)
      = modulated (fun e => lane z0 z1 z2 z3 z4 z5 r e) (fun e => z6 (ix2 0 e)) (fun e => z7 (ix3 0 0 e)) (fun e => z8 (ix3 0 0 e)) d := by
  pointwise [k0_pay4, k0_pay3, lane_at, modulated]

theorem out12 (y0 : Fin 1) (r : Fin 512) (d : Fin 1024) :
    out0_12 (F := Ideal) z0 z1 z2 z3 z4 z5 z6 z7 z8 z9 z10 z11 (ix3 y0 r d) = lane z0 z1 z2 z3 z4 z5 r d := by
  unfold_out out0_12
  canon_tiles x h
  idx_vars x
  obtain rfl : r = x1 := Fin.ext h1
  obtain rfl : d = x2 := Fin.ext h2
  pointwise [k0_pay2, lane_at, lane]

theorem out13 (y0 : Fin 1) (r : Fin 512) (d : Fin 1024) :
    out0_13 (F := Ideal) z0 z1 z2 z3 z4 z5 z6 z7 z8 z9 z10 z11 (ix3 y0 r d)
      = modulated (fun e => lane z0 z1 z2 z3 z4 z5 r e) (fun e => z6 (ix2 0 e)) (fun e => z7 (ix3 0 0 e)) (fun e => z8 (ix3 0 0 e)) d := by
  unfold_out out0_13
  canon_tiles x h
  idx_vars x
  obtain rfl : r = x1 := Fin.ext h1
  obtain rfl : d = x2 := Fin.ext h2
  pointwise [k0_pay6, k0_pay5, normed_at, lane]

end Block

section Arrays
variable (m : (ℓ : Loc nD τ sig) → Buf (Elt Ideal) ℓ) (c : Dev nD)

/-! The arrays the call reads that are made by host operations. -/

theorem weight1_at (a : FVec Ideal S1024x1024 .f32) (h : m ((c.tc : Thread nD τ).loc main_arg2) = a) (d : Fin 512) (l : Fin 1024) :
    (V m c main_v1 : FVec Ideal S512x1024 .bf16) (ix2 d l) = a (ix2 ⟨d.val, by omega⟩ l) := by
  subst h
  unfold V
  after_reads_at

theorem weight2_at (a : FVec Ideal S1024x1024 .f32) (h : m ((c.tc : Thread nD τ).loc main_arg2) = a) (d : Fin 512) (l : Fin 1024) :
    (V m c main_v2 : FVec Ideal S512x1024 .bf16) (ix2 d l) = a (ix2 ⟨512 + d.val, by omega⟩ l) := by
  subst h
  unfold V
  after_reads_at

theorem gate_at (a : FVec Ideal S16x1024 .f32) (h : m ((c.tc : Thread nD τ).loc main_arg4) = a) (b : Fin 16) (d : Fin 1024) :
    (V m c main_v3 : FVec Ideal S16x1x1024 .f32) (ix3 b 0 d) = a (ix2 b d) := by
  subst h
  unfold V
  after_reads_at

theorem gain_at (a : FVec Ideal S1024 .f32) (h : m ((c.tc : Thread nD τ).loc main_arg5) = a) (d : Fin 1024) :
    (V m c main_v24 : FVec Ideal S1x1024 .f32) (ix2 0 d) = a (ix1 d) := by
  subst h
  unfold V
  after_reads_at

theorem scale_at (a : FVec Ideal S16x1024 .f32) (h : m ((c.tc : Thread nD τ).loc main_arg6) = a) (b : Fin 16) (d : Fin 1024) :
    (V m c main_v4 : FVec Ideal S16x1x1024 .f32) (ix3 b 0 d) = a (ix2 b d) := by
  subst h
  unfold V
  after_reads_at

theorem shift_at (a : FVec Ideal S16x1024 .f32) (h : m ((c.tc : Thread nD τ).loc main_arg7) = a) (b : Fin 16) (d : Fin 1024) :
    (V m c main_v5 : FVec Ideal S16x1x1024 .f32) (ix3 b 0 d) = a (ix2 b d) := by
  subst h
  unfold V
  after_reads_at

end Arrays

/-! The blocks of a grid point, of any array. -/

/-- Where the windows stand at a grid point: batch `t / 8`, rows from `512 (t % 8)`. -/
theorem idx : ∀ t : Fin cfg0.N, win0_0.index t = ![t.val / 8, t.val % 8, 0] ∧ win0_1.index t = ![t.val / 8, t.val % 8, 0]
    ∧ win0_2.index t = ![0, 0] ∧ win0_3.index t = ![0, 0]
    ∧ win0_4.index t = ![t.val / 8, t.val % 8, 0] ∧ win0_5.index t = ![t.val / 8, 0, 0] ∧ win0_6.index t = ![0, 0]
    ∧ win0_7.index t = ![t.val / 8, 0, 0] ∧ win0_8.index t = ![t.val / 8, 0, 0]
    ∧ win0_12.index t = ![t.val / 8, t.val % 8, 0] ∧ win0_13.index t = ![t.val / 8, t.val % 8, 0] ∧ t.val < 128 :=
  (by decide +kernel : ∀ t : Fin grid0.N, _)

theorem yhy_read (A : FVec Ideal S16x4096x512 .f32) (t : Fin cfg0.N) (ht : t.val < 128) (r : Fin 512) (d : Fin 512) :
    (((cfg0.win 0).blk t).view.read (Elt Ideal) A : FVec Ideal S1x512x512 .f32) (ix3 0 r d)
      = A (ix3 ⟨t.val / 8, by omega⟩ ⟨t.val % 8 * 512 + r.val, by omega⟩ d) := by
  blk_ext [idx t]

theorem yatt_read (A : FVec Ideal S16x4096x512 .bf16) (t : Fin cfg0.N) (ht : t.val < 128) (r : Fin 512) (d : Fin 512) :
    (((cfg0.win 1).blk t).view.read (Elt Ideal) A : FVec Ideal S1x512x512 .bf16) (ix3 0 r d)
      = A (ix3 ⟨t.val / 8, by omega⟩ ⟨t.val % 8 * 512 + r.val, by omega⟩ d) := by
  blk_ext [idx t]

theorem w1_read (A : FVec Ideal S512x1024 .bf16) (t : Fin cfg0.N) (d : Fin 512) (l : Fin 1024) :
    (((cfg0.win 2).blk t).view.read (Elt Ideal) A : FVec Ideal S512x1024 .bf16) (ix2 d l) = A (ix2 d l) := by
  blk_ext [idx t]

theorem w2_read (A : FVec Ideal S512x1024 .bf16) (t : Fin cfg0.N) (d : Fin 512) (l : Fin 1024) :
    (((cfg0.win 3).blk t).view.read (Elt Ideal) A : FVec Ideal S512x1024 .bf16) (ix2 d l) = A (ix2 d l) := by
  blk_ext [idx t]

theorem x_read (A : FVec Ideal S16x4096x1024 .f32) (t : Fin cfg0.N) (ht : t.val < 128) (r : Fin 512) (d : Fin 1024) :
    (((cfg0.win 4).blk t).view.read (Elt Ideal) A : FVec Ideal S1x512x1024 .f32) (ix3 0 r d)
      = A (ix3 ⟨t.val / 8, by omega⟩ ⟨t.val % 8 * 512 + r.val, by omega⟩ d) := by
  blk_ext [idx t]

theorem gate_read (A : FVec Ideal S16x1x1024 .f32) (t : Fin cfg0.N) (ht : t.val < 128) (d : Fin 1024) :
    (((cfg0.win 5).blk t).view.read (Elt Ideal) A : FVec Ideal S1x1x1024 .f32) (ix3 0 0 d) = A (ix3 ⟨t.val / 8, by omega⟩ 0 d) := by
  blk_ext [idx t]

theorem g_read (A : FVec Ideal S1x1024 .f32) (t : Fin cfg0.N) (d : Fin 1024) :
    (((cfg0.win 6).blk t).view.read (Elt Ideal) A : FVec Ideal S1x1024 .f32) (ix2 0 d) = A (ix2 0 d) := by
  blk_ext [idx t]

theorem sc_read (A : FVec Ideal S16x1x1024 .f32) (t : Fin cfg0.N) (ht : t.val < 128) (d : Fin 1024) :
    (((cfg0.win 7).blk t).view.read (Elt Ideal) A : FVec Ideal S1x1x1024 .f32) (ix3 0 0 d) = A (ix3 ⟨t.val / 8, by omega⟩ 0 d) := by
  blk_ext [idx t]

theorem sh_read (A : FVec Ideal S16x1x1024 .f32) (t : Fin cfg0.N) (ht : t.val < 128) (d : Fin 1024) :
    (((cfg0.win 8).blk t).view.read (Elt Ideal) A : FVec Ideal S1x1x1024 .f32) (ix3 0 0 d) = A (ix3 ⟨t.val / 8, by omega⟩ 0 d) := by
  blk_ext [idx t]

section Final
variable (yhy : FVec Ideal S16x4096x512 .f32) (yatt : FVec Ideal S16x4096x512 .bf16) (w : FVec Ideal S1024x1024 .f32) (x : FVec Ideal S16x4096x1024 .f32) (gate : FVec Ideal S16x1024 .f32)
  (g : FVec Ideal S1024 .f32) (sc sh : FVec Ideal S16x1024 .f32)

/-- The stream after the projection is added. -/
def xArr : FVec Ideal S16x4096x1024 .f32 := fun y =>
  mixed (x y) (gate (ix2 (y 0) (y 2))) (joined (fun e => yhy (ix3 (y 0) (y 1) e)) (fun e => yatt (ix3 (y 0) (y 1) e))) (fun e => w (ix2 e (y 2)))

/-- The stream normed and modulated. -/
def hArr : FVec Ideal S16x4096x1024 .bf16 := fun y =>
  modulated (fun d => xArr yhy yatt w x gate (ix3 (y 0) (y 1) d)) (fun d => g (ix1 d)) (fun d => sc (ix2 (y 0) d)) (fun d => sh (ix2 (y 0) d)) (y 2)

variable (m : (ℓ : Loc nD τ sig) → Buf (Elt Ideal) ℓ) (c : Dev nD)
variable (h0 : m ((c.tc : Thread nD τ).loc main_arg0) = yhy) (h1 : m ((c.tc : Thread nD τ).loc main_arg1) = yatt) (h2 : m ((c.tc : Thread nD τ).loc main_arg2) = w)
  (h3 : m ((c.tc : Thread nD τ).loc main_arg3) = x) (h4 : m ((c.tc : Thread nD τ).loc main_arg4) = gate)
  (h5 : m ((c.tc : Thread nD τ).loc main_arg5) = g) (h6 : m ((c.tc : Thread nD τ).loc main_arg6) = sc)
  (h7 : m ((c.tc : Thread nD τ).loc main_arg7) = sh)

include h0 h1 h2 h3 h4

/-- A lane of a grid point's block is the array's. -/
theorem lane_eq (t : Fin cfg0.N) (ht : t.val < 128) (r : Fin 512) (d : Fin 1024) :
    lane (iblk m c 0 t) (iblk m c 1 t) (iblk m c 2 t) (iblk m c 3 t) (iblk m c 4 t) (iblk m c 5 t) r d
      = xArr yhy yatt w x gate (ix3 ⟨t.val / 8, by omega⟩ ⟨t.val % 8 * 512 + r.val, by omega⟩ d) := by
  have e0 : ∀ e, iblk m c 0 t (ix3 0 r e) = yhy (ix3 ⟨t.val / 8, by omega⟩ ⟨t.val % 8 * 512 + r.val, by omega⟩ e) :=
    fun e => (yhy_read (V m c main_arg0) t ht r e).trans (congrFun ((V_main_arg0 m c).trans h0) _)
  have e1 : ∀ e, iblk m c 1 t (ix3 0 r e) = yatt (ix3 ⟨t.val / 8, by omega⟩ ⟨t.val % 8 * 512 + r.val, by omega⟩ e) :=
    fun e => (yatt_read (V m c main_arg1) t ht r e).trans (congrFun ((V_main_arg1 m c).trans h1) _)
  have e2 : ∀ e, iblk m c 2 t (ix2 e d) = w (ix2 ⟨e.val, by omega⟩ d) := fun e => (w1_read (V m c main_v1) t e d).trans (weight1_at m c w h2 e d)
  have e3 : ∀ e, iblk m c 3 t (ix2 e d) = w (ix2 ⟨512 + e.val, by omega⟩ d) :=
    fun e => (w2_read (V m c main_v2) t e d).trans (weight2_at m c w h2 e d)
  have e4 : iblk m c 4 t (ix3 0 r d) = x (ix3 ⟨t.val / 8, by omega⟩ ⟨t.val % 8 * 512 + r.val, by omega⟩ d) :=
    (x_read (V m c main_arg3) t ht r d).trans (congrFun ((V_main_arg3 m c).trans h3) _)
  have e5 : iblk m c 5 t (ix3 0 0 d) = gate (ix2 ⟨t.val / 8, by omega⟩ d) := (gate_read (V m c main_v3) t ht d).trans (gate_at m c gate h4 _ d)
  refine congrArg₂ (· + ·) e4 (congrArg₂ (· * ·) e5 (Eq.trans ?_ (sum_joined _ _ _).symm))
  exact congrArg₂ (· + ·) (Finset.sum_congr rfl fun e _ => congrArg₂ (· * ·) (e0 e) (e2 e))
    (Finset.sum_congr rfl fun e _ => congrArg₂ (· * ·) (e1 e) (e3 e))

/-- The stream after the run. -/
theorem final_x : (dats m 0 c).arrAt 12 cfg0.N = xArr yhy yatt w x gate := by
  refine (dats m 0 c).arrAt_eq_of_covers 12 _ (by decide +kernel) fun t hf y => ?_
  blk_simp
  rw [after0_12]
  have ht : t.val < 128 := (idx t).2.2.2.2.2.2.2.2.2.2.2
  idx_vars y
  refine (out12 ..).trans ?_
  refine (lane_eq yhy yatt w x gate m c h0 h1 h2 h3 h4 t ht y1 y2).trans ?_
  blk_ext [idx t]

include h5 h6 h7

/-- The normed stream after the run. -/
theorem final_h : (dats m 0 c).arrAt 13 cfg0.N = hArr yhy yatt w x gate g sc sh := by
  refine (dats m 0 c).arrAt_eq_of_covers 13 _ (by decide +kernel) fun t hf y => ?_
  blk_simp
  rw [after0_13]
  have ht : t.val < 128 := (idx t).2.2.2.2.2.2.2.2.2.2.2
  idx_vars y
  refine (out13 ..).trans ?_
  have e6 : ∀ d, iblk m c 6 t (ix2 0 d) = g (ix1 d) := fun d => (g_read (V m c main_v24) t d).trans (gain_at m c g h5 d)
  have e7 : ∀ d, iblk m c 7 t (ix3 0 0 d) = sc (ix2 ⟨t.val / 8, by omega⟩ d) := fun d => (sc_read (V m c main_v4) t ht d).trans (scale_at m c sc h6 _ d)
  have e8 : ∀ d, iblk m c 8 t (ix3 0 0 d) = sh (ix2 ⟨t.val / 8, by omega⟩ d) := fun d => (sh_read (V m c main_v5) t ht d).trans (shift_at m c sh h7 _ d)
  refine (congrFun (congr (congr (congr (congrArg modulated (funext fun d => lane_eq yhy yatt w x gate m c h0 h1 h2 h3 h4 t ht y1 d)) (funext e6)) (funext e7)) (funext e8)) y2).trans ?_
  refine (rfl : _ = hArr yhy yatt w x gate g sc sh (ix3 ⟨t.val / 8, by omega⟩ ⟨t.val % 8 * 512 + y1.val, by omega⟩ y2)).trans ?_
  blk_ext [idx t]

end Final

end Cert.Kernel5Ideal.Out

end
-- ==== Proof.OutEvenEquation.lean ====
/- The equation of the even layer's output projection with its reference. -/
module

public import proofs.«01_k».proof.Proof.OutEvenFinal
public import proofs.«01_k».proof.Proof.Gen.Reference5Ideal.Run

@[expose] public section

set_option maxRecDepth 16384

noncomputable section

namespace Cert.Reference5Ideal.Out

open Cert.Reference5Ideal Cert.Reference5Ideal.Gen Idealize.ShloMosaic Cert.Proj

/-- The reference's mixed tokens: the two inputs side by side. -/
def rows (yhy : FVec Ideal S16x4096x512 .f32) (yatt : FVec Ideal S16x4096x512 .bf16) : FVec Ideal S16x4096x1024 .f32 :=
  concatenate S16x4096x1024 2 [⟨S16x4096x512, yhy⟩, ⟨S16x4096x512, extf .f32 yatt bitsLt_bf16_f32⟩]
    concatenates_S16x4096x512_S16x4096x512_S16x4096x1024_d2

/-- The reference's stream after the projection is added. -/
def stream (yhy : FVec Ideal S16x4096x512 .f32) (yatt : FVec Ideal S16x4096x512 .bf16) (w : FVec Ideal S1024x1024 .f32) (x : FVec Ideal S16x4096x1024 .f32) (gate : FVec Ideal S16x1024 .f32) :
    FVec Ideal S16x4096x1024 .f32 :=
  addf x
    (mulf
      (broadcastInDim S16x4096x1024 ![0, 1, 2] bcast_S16x1x1024_S16x4096x1024_0_1_2 (broadcastInDim S16x1x1024 ![0, 2] bcast_S16x1024_S16x1x1024_0_2 gate))
      (Host.dotGeneral dot_S16x4096x1024_S1024x1024_S16x4096x1024_2_0_01_1_n_n none (rows yhy yatt) w))

/-- The norm of a stream, modulated. -/
def normed (x : FVec Ideal S16x4096x1024 .f32) (g : FVec Ideal S1024 .f32) (sc sh : FVec Ideal S16x1024 .f32) : FVec Ideal S16x4096x1024 .bf16 :=
  truncf .bf16
    (addf
      (mulf
        (mulf
          (mulf x
            (broadcastInDim S16x4096x1024 ![0, 1, 2] bcast_S16x4096x1_S16x4096x1024_0_1_2
              (Host.rsqrt
                (addf
                  (Host.divf
                    (broadcastInDim S16x4096x1 ![0, 1] bcast_S16x4096_S16x4096x1_0_1
                      (Host.reduceAdd (mulf x x) (constant S_ .f32 0x00000000#32) reducesTo_S16x4096x1024_S16x4096_d2 h_S_))
                    (broadcastInDim S16x4096x1 ![] bcast_S_S16x4096x1 (constant S_ .f32 0x44800000#32)))
                  (broadcastInDim S16x4096x1 ![] bcast_S_S16x4096x1 (constant S_ .f32 0x358637BD#32))))))
          (broadcastInDim S16x4096x1024 ![0, 1, 2] bcast_S1x1x1024_S16x4096x1024_0_1_2 (broadcastInDim S1x1x1024 ![2] bcast_S1024_S1x1x1024_2 g)))
        (broadcastInDim S16x4096x1024 ![0, 1, 2] bcast_S16x1x1024_S16x4096x1024_0_1_2
          (addf (broadcastInDim S16x1x1024 ![] bcast_S_S16x1x1024 (constant S_ .f32 0x3F800000#32))
            (broadcastInDim S16x1x1024 ![0, 2] bcast_S16x1024_S16x1x1024_0_2 sc))))
      (broadcastInDim S16x4096x1024 ![0, 1, 2] bcast_S16x1x1024_S16x4096x1024_0_1_2
        (broadcastInDim S16x1x1024 ![0, 2] bcast_S16x1024_S16x1x1024_0_2 sh)))
    bitsLt_bf16_f32

variable (yhy : FVec Ideal S16x4096x512 .f32) (yatt : FVec Ideal S16x4096x512 .bf16) (w : FVec Ideal S1024x1024 .f32) (x : FVec Ideal S16x4096x1024 .f32) (gate : FVec Ideal S16x1024 .f32)
  (g : FVec Ideal S1024 .f32) (sc sh : FVec Ideal S16x1024 .f32)

/-- A row of the mixed tokens is the two inputs' rows joined. -/
theorem rows_at (b : Fin 16) (n : Fin 4096) (e : Fin 1024) :
    rows yhy yatt (ix3 b n e) = joined (fun e => yhy (ix3 b n e)) (fun e => yatt (ix3 b n e)) e := by
  pointwise [rows, joined]

/-- The stream agrees. -/
theorem stream_eq : stream yhy yatt w x gate = Cert.Kernel5Ideal.Out.xArr yhy yatt w x gate := by
  funext y
  idx_vars y
  pointwise [stream, rows_at, Cert.Kernel5Ideal.Out.xArr, mixed]

theorem normed_at (b : Fin 16) (n : Fin 4096) (d : Fin 1024) :
    normed x g sc sh (ix3 b n d)
      = modulated (fun d => x (ix3 b n d)) (fun d => g (ix1 d)) (fun d => sc (ix2 b d)) (fun d => sh (ix2 b d)) d := by
  pointwise [normed, modulated]

/-- The normed stream agrees. -/
theorem normed_eq : normed (stream yhy yatt w x gate) g sc sh = Cert.Kernel5Ideal.Out.hArr yhy yatt w x gate g sc sh := by
  funext y
  idx_vars y
  rw [stream_eq]
  exact normed_at _ g sc sh y0 y1 y2

end Cert.Reference5Ideal.Out

end
-- ==== Proof.Softmax.lean ====
/- The softmax of one row as extended reals: the weighted sum divided once by the sum of the weights,
   against each weight divided first, over keys that come in two pieces. -/
module

public import Idealize.ShloMosaic.Lib.Pointwise
public import Idealize.ShloMosaic.Lib.IdealHost

@[expose] public section

noncomputable section

namespace Cert.Softmax

open Idealize.ShloMosaic

/-- The largest score of a row, from minus infinity. -/
def top {n : ℕ} (s : Fin n → EReal) : EReal :=
  Finset.univ.fold max (Ideal.ofBits .f32 0xFF800000#32) s

/-- The softmax weight of key `k` in a row of scores `s`, before the division: the exponential of
    its distance to the row's largest score. -/
def weight {n : ℕ} (s : Fin n → EReal) (k : Fin n) : EReal := Ideal.exp (s k - top s)

/-- One row of attention: the weighted sum of `v`, over the weighted sum of `o`. -/
def mix {n : ℕ} (s v o : Fin n → EReal) : EReal :=
  Ideal.div (∑ k, weight s k * v k) (∑ k, weight s k * o k)

/-- The pattern of minus infinity denotes the least extended real. -/
theorem ofBits_bot : Ideal.ofBits .f32 0xFF800000#32 = ⊥ := by
  simp [Ideal.ofBits, Ideal.ieee]

theorem top_le {n : ℕ} (s : Fin n → EReal) (x : EReal) : top s ≤ x ↔ ∀ k, s k ≤ x := by
  unfold top
  rw [Finset.fold_max_le, ofBits_bot]
  simp

/-- The largest score of a row in two pieces is the larger of the pieces' largest. -/
theorem top_append {n₁ n₂ : ℕ} (s : Fin (n₁ + n₂) → EReal) :
    top s = max (top fun k => s (Fin.castAdd n₂ k)) (top fun k => s (Fin.natAdd n₁ k)) := by
  refine eq_of_forall_ge_iff fun x => ?_
  rw [max_le_iff, top_le, top_le, top_le]
  constructor
  · intro h; exact ⟨fun k => h _, fun k => h _⟩
  · rintro ⟨h₁, h₂⟩ k
    exact Fin.addCases h₁ h₂ k

/-- A finite factor that is not negative goes through a sum of extended reals. -/
theorem sum_mul_of_nonneg {ι : Type} (t : Finset ι) (f : ι → EReal) (c : EReal) (h0 : 0 ≤ c) (ht : c ≠ ⊤) :
    (∑ i ∈ t, f i) * c = ∑ i ∈ t, f i * c := by
  classical
  induction t using Finset.induction_on with
  | empty => simp
  | insert i t hi ih => rw [Finset.sum_insert hi, Finset.sum_insert hi, EReal.right_distrib_of_nonneg_of_ne_top h0 ht, ih]

theorem exp_nonneg (x : EReal) : 0 ≤ Ideal.exp x := by
  induction x with
  | bot => simp
  | top => simp
  | coe r => simpa using (Real.exp_pos r).le

theorem exp_pos_coe (r : ℝ) : 0 < Ideal.exp (r : EReal) := by
  simpa using Real.exp_pos r

/-- In a row with real scores the largest is real. -/
theorem top_real {n : ℕ} (s : Fin (n + 1) → EReal) (hs : ∀ k, ∃ r : ℝ, s k = r) : ∃ r : ℝ, top s = r := by
  have hb : ⊥ < top s := by
    obtain ⟨r, hr⟩ := hs 0
    exact lt_of_lt_of_le (hr ▸ EReal.bot_lt_coe r) ((top_le s _).1 le_rfl 0)
  have ht : top s < ⊤ := by
    unfold top
    rw [Finset.fold_max_lt, ofBits_bot]
    refine ⟨bot_lt_top, fun k _ => ?_⟩
    obtain ⟨r, hr⟩ := hs k
    exact hr ▸ EReal.coe_lt_top r
  exact ⟨(top s).toReal, (EReal.coe_toReal ht.ne hb.ne').symm⟩

/-- In a row with real scores the weights do not sum to zero. -/
theorem sum_weight_pos {n : ℕ} (s : Fin (n + 1) → EReal) (hs : ∀ k, ∃ r : ℝ, s k = r) : 0 < ∑ k, weight s k := by
  refine lt_of_lt_of_le (b := weight s 0) ?_ (Finset.single_le_sum (f := weight s) (fun k _ => exp_nonneg _) (Finset.mem_univ 0))
  obtain ⟨a, ha⟩ := hs 0
  obtain ⟨b, hb⟩ := top_real s hs
  unfold weight
  rw [ha, hb, ← EReal.coe_sub]
  exact exp_pos_coe _

/-- A sum divided by a positive extended real, term by term. -/
theorem div_sum {ι : Type} (t : Finset ι) (w v : ι → EReal) (d : EReal) (hd : 0 < d) :
    Ideal.div (∑ i ∈ t, w i * v i) d = ∑ i ∈ t, v i * Ideal.div (w i) d := by
  simp only [Ideal.div, if_neg hd.ne']
  rw [sum_mul_of_nonneg _ _ _ (EReal.inv_nonneg_of_nonneg hd.le) (EReal.inv_lt_top d).ne]
  refine Finset.sum_congr rfl fun i _ => ?_
  rw [mul_comm (w i), mul_assoc]

/-- Attention over keys in two pieces: dividing the weighted sum once by the sum of the weights is
    dividing every weight by it, the largest score and the sum of the weights taken over both pieces. -/
theorem mix_append {n₁ n₂ : ℕ} (s v o : Fin (n₁ + (n₂ + 1)) → EReal) (s₁ v₁ : Fin n₁ → EReal) (s₂ v₂ : Fin (n₂ + 1) → EReal)
    (hs : ∀ k, ∃ r : ℝ, s k = r) (ho : ∀ k, o k = 1)
    (h₁ : ∀ k, s (Fin.castAdd _ k) = s₁ k) (h₂ : ∀ k, s (Fin.natAdd _ k) = s₂ k)
    (g₁ : ∀ k, v (Fin.castAdd _ k) = v₁ k) (g₂ : ∀ k, v (Fin.natAdd _ k) = v₂ k) :
    mix s v o
      = (∑ k, v₁ k * Ideal.div (Ideal.exp (s₁ k - max (top s₁) (top s₂)))
            (∑ k, Ideal.exp (s₁ k - max (top s₁) (top s₂)) + ∑ k, Ideal.exp (s₂ k - max (top s₁) (top s₂))))
        + ∑ k, v₂ k * Ideal.div (Ideal.exp (s₂ k - max (top s₁) (top s₂)))
            (∑ k, Ideal.exp (s₁ k - max (top s₁) (top s₂)) + ∑ k, Ideal.exp (s₂ k - max (top s₁) (top s₂))) := by
  obtain rfl : (fun k => s (Fin.castAdd _ k)) = s₁ := funext h₁
  obtain rfl : (fun k => s (Fin.natAdd _ k)) = s₂ := funext h₂
  obtain rfl : (fun k => v (Fin.castAdd _ k)) = v₁ := funext g₁
  obtain rfl : (fun k => v (Fin.natAdd _ k)) = v₂ := funext g₂
  have hd : 0 < ∑ k : Fin (n₁ + (n₂ + 1)), weight s k := sum_weight_pos (n := n₁ + n₂) s hs
  have e : ∑ k, weight s k * o k = ∑ k, weight s k := Finset.sum_congr rfl fun k _ => by rw [ho, mul_one]
  unfold mix
  rw [e]
  refine (div_sum _ (weight s) v _ hd).trans ?_
  rw [Fin.sum_univ_add fun k => v k * Ideal.div (weight s k) _]
  simp only [← top_append]
  rw [Fin.sum_univ_add fun k => weight s k]
  rfl

end Cert.Softmax

end
-- ==== Proof.Block.lean ====
/- What one grid point of the dense attention leaves in its output block, as a function of the three
   blocks it reads: 256 query rows, the transposed keys and the values with their column of ones. -/
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem Cert.Softmax

/-- The score of query row `r` and key `k` in query head `h` (of 16), whose keys are those of head
    `h / 4` (of 4). -/
def score (qb : FVec Ideal S1x256x1024 .bf16) (kt : FVec Ideal S1x256x4352 .bf16)
    (h : ℕ) (hh : h < 16) (r : Fin 256) (k : Fin 4352) : EReal :=
  ∑ d : Fin 64, qb (ix3 0 r ⟨64 * h + d.val, by omega⟩) * kt (ix3 0 ⟨64 * (h / 4) + d.val, by omega⟩ k)

/-- The output block: at row `r` and column `64 h + l`, head `h`'s attention at lane `l`. -/
def attBlk (qb : FVec Ideal S1x256x1024 .bf16) (kt : FVec Ideal S1x256x4352 .bf16)
    (vo : FVec Ideal S1x4352x512 .bf16) : FVec Ideal S1x256x1024 .bf16 := fun y =>
  have hy : (y 2).val < 1024 := (y 2).isLt
  mix (score qb kt ((y 2).val / 64) (by omega) (y 1))
    (fun k => vo (ix3 0 k ⟨128 * ((y 2).val / 256) + (y 2).val % 64, by omega⟩))
    (fun k => vo (ix3 0 k ⟨128 * ((y 2).val / 256) + 64, by omega⟩))

/-- The first half of a unit's rows (its first head) as it is stored. -/
theorem store_fst (s : FVec Ideal S512x4352 .f32) (v : Vec Ideal S1x4352x128 .bf16) (a : Fin 1) (r : Fin 256) (l : Fin 64) :
    k0_pay11 (F := Ideal) s v (ix3 a r l)
      = mix (fun k => s (ix2 ⟨r.val, by omega⟩ k)) (fun k => v (ix3 0 k ⟨l.val, by omega⟩)) (fun k => v (ix3 0 k 64)) := by
  pointwise [k0_pay11, k0_pay10, mix, weight, top]

/-- The second half of a unit's rows (its second head) as it is stored. -/
theorem store_snd (s : FVec Ideal S512x4352 .f32) (v : Vec Ideal S1x4352x128 .bf16) (a : Fin 1) (r : Fin 256) (l : Fin 64) :
    k0_pay12 (F := Ideal) s v (ix3 a r l)
      = mix (fun k => s (ix2 ⟨256 + r.val, by omega⟩ k)) (fun k => v (ix3 0 k ⟨l.val, by omega⟩)) (fun k => v (ix3 0 k 64)) := by
  pointwise [k0_pay12, k0_pay10, mix, weight, top]

/-- A row of a unit is a row of the output block, when its scores are that row's scores and its
    values are the head's 128 columns of values and ones. -/
theorem mix_eq (s : Fin 4352 → EReal) (v : Vec Ideal S1x4352x128 .bf16)
    (qb : FVec Ideal S1x256x1024 .bf16) (kt : FVec Ideal S1x256x4352 .bf16) (vo : FVec Ideal S1x4352x512 .bf16)
    (y0 : Fin 1) (r : Fin 256) (col : Fin 1024) (l : Fin 64) (hd : ℕ) (hhd : hd < 16) (h2 : col.val = 64 * hd + l.val)
    (hs : ∀ k, s k = score qb kt hd hhd r k)
    (hv : ∀ (k : Fin 4352) (l : Fin 128), v (ix3 0 k l) = vo (ix3 0 k ⟨128 * (hd / 4) + l.val, by omega⟩)) :
    mix s (fun k => v (ix3 0 k ⟨l.val, by omega⟩)) (fun k => v (ix3 0 k 64)) = attBlk qb kt vo (ix3 y0 r col) := by
  obtain rfl : s = score qb kt hd hhd r := funext hs
  have e1 : hd = col.val / 64 := by omega
  subst e1
  have e2 : col.val / 64 / 4 = col.val / 256 := by omega
  have e3 : l.val = col.val % 64 := by omega
  unfold attBlk
  refine congrArg₂ (mix _) (funext fun k => (hv k _).trans ?_) (funext fun k => (hv k _).trans ?_)
  · refine congrArg vo (congrArg (ix3 0 k) (Fin.ext ?_))
    show 128 * (col.val / 64 / 4) + l.val = 128 * (col.val / 256) + col.val % 64
    omega
  · refine congrArg vo (congrArg (ix3 0 k) (Fin.ext ?_))
    show 128 * (col.val / 64 / 4) + 64 = 128 * (col.val / 256) + 64
    omega

/-- The first head of a unit is stored as the output block has it. -/
theorem fst_eq (s : FVec Ideal S512x4352 .f32) (v : Vec Ideal S1x4352x128 .bf16)
    (qb : FVec Ideal S1x256x1024 .bf16) (kt : FVec Ideal S1x256x4352 .bf16) (vo : FVec Ideal S1x4352x512 .bf16)
    (x : S1x256x64.Idx) (y : S1x256x1024.Idx) (hd : ℕ) (hhd : hd < 16)
    (h1 : (y 1 : ℕ) = (x 1 : ℕ)) (h2 : (y 2 : ℕ) = 64 * hd + (x 2 : ℕ))
    (hs : ∀ (r : Fin 256) k, s (ix2 ⟨r.val, by omega⟩ k) = score qb kt hd hhd r k)
    (hv : ∀ (k : Fin 4352) (l : Fin 128), v (ix3 0 k l) = vo (ix3 0 k ⟨128 * (hd / 4) + l.val, by omega⟩)) :
    k0_pay11 (F := Ideal) s v x = attBlk qb kt vo y := by
  idx_vars x
  idx_vars y
  obtain rfl : y1 = x1 := Fin.ext h1
  exact (store_fst s v _ _ _).trans (mix_eq _ v qb kt vo _ _ _ _ hd hhd h2 (hs _) hv)

/-- The second head of a unit is stored as the output block has it. -/
theorem snd_eq (s : FVec Ideal S512x4352 .f32) (v : Vec Ideal S1x4352x128 .bf16)
    (qb : FVec Ideal S1x256x1024 .bf16) (kt : FVec Ideal S1x256x4352 .bf16) (vo : FVec Ideal S1x4352x512 .bf16)
    (x : S1x256x64.Idx) (y : S1x256x1024.Idx) (hd : ℕ) (hhd : hd < 16)
    (h1 : (y 1 : ℕ) = (x 1 : ℕ)) (h2 : (y 2 : ℕ) = 64 * hd + (x 2 : ℕ))
    (hs : ∀ (r : Fin 256) k, s (ix2 ⟨256 + r.val, by omega⟩ k) = score qb kt hd hhd r k)
    (hv : ∀ (k : Fin 4352) (l : Fin 128), v (ix3 0 k l) = vo (ix3 0 k ⟨128 * (hd / 4) + l.val, by omega⟩)) :
    k0_pay12 (F := Ideal) s v x = attBlk qb kt vo y := by
  idx_vars x
  idx_vars y
  obtain rfl : y1 = x1 := Fin.ext h1
  exact (store_snd s v _ _ _).trans (mix_eq _ v qb kt vo _ _ _ _ hd hhd h2 (hs _) hv)

/-- The scores of the first unit, which the kernel computes in one piece with the rest of the unit. -/
def scores0 (qb : FVec Ideal S1x256x1024 .bf16) (kb : FVec Ideal S1x64x4352 .bf16) : FVec Ideal S512x4352 .f32 :=
  matmul dot_S512x64_S64x4352_S512x4352_1_0_0_1_n_n none
    (concatenate S512x64 0 [⟨S256x64, extractStridedSlice S256x64 ![0, 0] (k0_pay3 qb) slices_S256x1024_o0_0_S256x64⟩,
      ⟨S256x64, extractStridedSlice S256x64 ![0, 64] (k0_pay3 qb) slices_S256x1024_o0_64_S256x64⟩] concatenates_S256x64_S256x64_S512x64_d0)
    (shapeCast S64x4352 kb shapeCasts_S1x64x4352_S64x4352) (constant S512x4352 .f32 0x00000000#32)

/-- The scores of the last unit, from its stacked query rows. -/
def scores7 (q : FVec Ideal S512x64 .bf16) (kb : FVec Ideal S1x64x4352 .bf16) : FVec Ideal S512x4352 .f32 :=
  matmul dot_S512x64_S64x4352_S512x4352_1_0_0_1_n_n none q
    (shapeCast S64x4352 kb shapeCasts_S1x64x4352_S64x4352) (constant S512x4352 .f32 0x00000000#32)

section Stores
variable (s : FVec Ideal S512x4352 .f32) (v : Vec Ideal S1x4352x128 .bf16) (qb : Vec Ideal S1x256x1024 .bf16)
  (kb : FVec Ideal S1x64x4352 .bf16) (q : FVec Ideal S512x64 .bf16)

/-! The stores of the eight units are the same two functions of a unit's scores and values, however
    the kernel's text cuts them into parts. -/

theorem fst0 : k0_pay6 qb kb v = k0_pay11 (scores0 qb kb) v := rfl
theorem snd0 : k0_pay8 (k0_pay7 qb kb v) = k0_pay12 (scores0 qb kb) v := rfl
theorem fst2 : k0_pay15 s v = k0_pay11 s v := rfl
theorem snd2 : k0_pay16 s v = k0_pay12 s v := rfl
theorem fst3 : k0_pay21 (k0_pay18 s v) (k0_pay19 s v) = k0_pay11 s v := rfl
theorem snd3 : k0_pay22 (k0_pay18 s v) (k0_pay19 s v) = k0_pay12 s v := rfl
theorem fst4 : k0_pay25 s v = k0_pay11 s v := rfl
theorem snd4 : k0_pay27 (k0_pay26 s v) = k0_pay12 s v := rfl
theorem fst5 : k0_pay30 s v = k0_pay11 s v := rfl
theorem snd5 : k0_pay31 s v = k0_pay12 s v := rfl
theorem fst6 : k0_pay34 s v = k0_pay11 s v := rfl
theorem snd6 : k0_pay35 s v = k0_pay12 s v := rfl
theorem fst7 : k0_pay1 (k0_pay37 q kb v) = k0_pay11 (scores7 q kb) v := rfl
theorem snd7 : k0_pay2 (k0_pay36 q kb v) = k0_pay12 (scores7 q kb) v := rfl

end Stores

/-- What a grid point leaves in its output block. -/
theorem out_block (c : Dev nD) (i : grid0.Coords) (arg2 : Memref sig .tc .smem S16 .f32) (harg2 : arg2.IsWhole) (arg3 : Memref sig .tc .vmem S1x256x1024 .bf16) (harg3 : arg3.IsWhole) (arg4 : Memref sig .tc .vmem S1x256x4352 .bf16) (harg4 : arg4.IsWhole) (arg5 : Memref sig .tc .vmem S1x4352x512 .bf16) (harg5 : arg5.IsWhole) (arg6 : Memref sig .tc .vmem S1x256x1024 .bf16) (harg6 : arg6.IsWhole)
    (x0 : Vec Ideal S16 .f32) (qb : Vec Ideal S1x256x1024 .bf16) (kt : Vec Ideal S1x256x4352 .bf16) (vo : Vec Ideal S1x4352x512 .bf16) (y : S1x256x1024.Idx) :
    out0_A_4 (F := Ideal) c i arg2 harg2 arg3 harg3 arg4 harg4 arg5 harg5 arg6 harg6 x0 qb kt vo y = attBlk qb kt vo y := by
  frame_out
  canon_tiles x h
  all_goals (try simp only [fst0, snd0, fst2, snd2, fst3, snd3, fst4, snd4, fst5, snd5, fst6, snd6, fst7, snd7])
  case piece0 => exact snd_eq _ _ qb kt vo x y 15 (by decide) h1 (by omega) (fun r k => by pointwise [score, k0_pay3, scores7, k0_pay32]) (fun k l => by pointwise [score])
  case piece1 => exact fst_eq _ _ qb kt vo x y 14 (by decide) h1 (by omega) (fun r k => by pointwise [score, k0_pay3, scores7, k0_pay32]) (fun k l => by pointwise [score])
  case piece2 => exact snd_eq _ _ qb kt vo x y 13 (by decide) h1 (by omega) (fun r k => by pointwise [score, k0_pay3, k0_pay28]) (fun k l => by pointwise [score])
  case piece3 => exact fst_eq _ _ qb kt vo x y 12 (by decide) h1 (by omega) (fun r k => by pointwise [score, k0_pay3, k0_pay28]) (fun k l => by pointwise [score])
  case piece4 => exact snd_eq _ _ qb kt vo x y 11 (by decide) h1 (by omega) (fun r k => by pointwise [score, k0_pay3, k0_pay23]) (fun k l => by pointwise [score])
  case piece5 => exact fst_eq _ _ qb kt vo x y 10 (by decide) h1 (by omega) (fun r k => by pointwise [score, k0_pay3, k0_pay23]) (fun k l => by pointwise [score])
  case piece6 => exact snd_eq _ _ qb kt vo x y 9 (by decide) h1 (by omega) (fun r k => by pointwise [score, k0_pay3, k0_pay17]) (fun k l => by pointwise [score])
  case piece7 => exact fst_eq _ _ qb kt vo x y 8 (by decide) h1 (by omega) (fun r k => by pointwise [score, k0_pay3, k0_pay17]) (fun k l => by pointwise [score])
  case piece8 => exact snd_eq _ _ qb kt vo x y 7 (by decide) h1 (by omega) (fun r k => by pointwise [score, k0_pay3, k0_pay13]) (fun k l => by pointwise [score])
  case piece9 => exact fst_eq _ _ qb kt vo x y 6 (by decide) h1 (by omega) (fun r k => by pointwise [score, k0_pay3, k0_pay13]) (fun k l => by pointwise [score])
  case piece10 => exact snd_eq _ _ qb kt vo x y 5 (by decide) h1 (by omega) (fun r k => by pointwise [score, k0_pay3, k0_pay9]) (fun k l => by pointwise [score])
  case piece11 => exact fst_eq _ _ qb kt vo x y 4 (by decide) h1 (by omega) (fun r k => by pointwise [score, k0_pay3, k0_pay9]) (fun k l => by pointwise [score])
  case piece12 => exact snd_eq _ _ qb kt vo x y 3 (by decide) h1 (by omega) (fun r k => by pointwise [score, k0_pay3, k0_pay4]) (fun k l => by pointwise [score])
  case piece13 => exact fst_eq _ _ qb kt vo x y 2 (by decide) h1 (by omega) (fun r k => by pointwise [score, k0_pay3, k0_pay4]) (fun k l => by pointwise [score])
  case piece14 => exact snd_eq _ _ qb kt vo x y 1 (by decide) h1 (by omega) (fun r k => by pointwise [score, k0_pay3, scores0]) (fun k l => by pointwise [score])
  case piece15 => exact fst_eq _ _ qb kt vo x y 0 (by decide) h1 (by omega) (fun r k => by pointwise [score, k0_pay3, scores0]) (fun k l => by pointwise [score])

end Cert.KernelIdeal.Att

end
-- ==== Proof.Arrays.lean ====
/- The arrays the dense attention's call reads, and the one it leaves, as functions of the arguments. -/
module

public import proofs.«01_k».proof.Proof.Block
public import Idealize.ShloMosaic.Lib.Tactic.CleanTypes
public import Idealize.ShloMosaic.Lib.Claim
public import Idealize.ShloMosaic.Lib.Routing.OpsSet
public import Idealize.ShloMosaic.Lib.Routing.OpsPair

@[expose] public section

set_option maxRecDepth 16384

noncomputable section

namespace Cert.KernelIdeal.Att

open Cert.KernelIdeal Cert.KernelIdeal.Gen Cert.KernelIdeal.Value Idealize.ShloMosaic Idealize.ShloMosaic.TcCoe Idealize.SL.Sem Cert.Softmax Routing

variable (m : (ℓ : Loc nD τ sig) → Buf (Elt Ideal) ℓ) (c : Dev nD)

/-- The keys, those of the context first: key `k` of batch `b`, head `h`, lane `d`. -/
def keys (k : FVec Ideal S16x4096x4x64 .f32) (kc : FVec Ideal S16x256x4x64 .f32) (b : Fin 16) (x : Fin 4352) (h : Fin 4) (d : Fin 64) : EReal :=
  if hx : x.val < 256 then kc (ix4 b ⟨x.val, hx⟩ h d) else k (ix4 b ⟨x.val - 256, by omega⟩ h d)

/-- The scaled queries the call reads. -/
theorem query_at (q : FVec Ideal S16x4096x4x4x64 .f32) (hq : m ((c.tc : Thread nD τ).loc main_arg0) = q) (b : Fin 16) (r : Fin 4096) (d : Fin 1024) :
    (V m c main_v3 : FVec Ideal S16x4096x1024 .bf16) (ix3 b r d)
      = q (ix5 b r ⟨d.val / 256, by omega⟩ ⟨d.val / 64 % 4, by omega⟩ ⟨d.val % 64, by omega⟩) * Ideal.ofBits .f32 0x3E000000#32 := by
  subst hq
  entry_read
  pointwise []

/-- The transposed keys the call reads. -/
theorem key_at (k : FVec Ideal S16x4096x4x64 .f32) (kc : FVec Ideal S16x256x4x64 .f32) (hk : m ((c.tc : Thread nD τ).loc main_arg1) = k)
    (hkc : m ((c.tc : Thread nD τ).loc main_arg3) = kc) (b : Fin 16) (d : Fin 256) (x : Fin 4352) :
    (V m c main_v14 : FVec Ideal S16x256x4352 .bf16) (ix3 b d x) = keys k kc b x ⟨d.val / 64, by omega⟩ ⟨d.val % 64, by omega⟩ := by
  subst hk hkc
  entry_read
  pointwise [keys]

/-- The values the call reads, in the 64 lanes of a head. -/
theorem value_at (v : FVec Ideal S16x4096x4x64 .f32) (vc : FVec Ideal S16x256x4x64 .f32) (hv : m ((c.tc : Thread nD τ).loc main_arg2) = v)
    (hvc : m ((c.tc : Thread nD τ).loc main_arg4) = vc) (b : Fin 16) (x : Fin 4352) (h : Fin 4) (d : Fin 64) :
    (V m c main_v22 : FVec Ideal S16x4352x512 .bf16) (ix3 b x ⟨128 * h.val + d.val, by omega⟩) = keys v vc b x h d := by
  subst hv hvc
  entry_read
  pointwise [keys]
  rw [dif_pos (by omega)]
  have e : ∀ (n : ℕ) (a : FVec Ideal ⟨4, ![16, n, 4, 64]⟩ .f32) (y : Fin n) (h₁ : _) (h₂ : _),
      a (ix4 b y ⟨(h.val * 64 + (128 * h.val + d.val) % 128) / 64, h₁⟩ ⟨(h.val * 64 + (128 * h.val + d.val) % 128) % 64, h₂⟩)
        = a (ix4 b y h d) := fun n a y h₁ h₂ =>
    congrArg a (congrArg₂ (ix4 b y) (Fin.ext (by dsimp only; omega)) (Fin.ext (by dsimp only; omega)))
  exact dite_congr rfl (fun _ => e 256 _ _ _ _) fun _ => e 4096 _ _ _ _

/-- The ones the call reads, in the lane after a head's values. -/
theorem ones_at (b : Fin 16) (x : Fin 4352) (h : Fin 4) :
    (V m c main_v22 : FVec Ideal S16x4352x512 .bf16) (ix3 b x ⟨128 * h.val + 64, by omega⟩) = (1 : EReal) := by
  entry_read
  pointwise []
  rw [dif_neg (by omega)]
  refine scatter_set_hit _ _ _ _ _ (1 : EReal) (fun _ _ => Ideal.ofBits_one_bf16) (ix3 b x h) ((resultIdx?_eq_some _ _ _ _).2 fun a => ?_)
  match a with
  | 0 => exact zero_add (b.val : ℤ)
  | 1 => exact zero_add (x.val : ℤ)
  | 2 => exact zero_add (h.val : ℤ)
  | 3 =>
    show (0 : ℤ) + 0 = (((128 * h.val + 64) % 128 - 64 : ℕ) : ℤ)
    omega

end Cert.KernelIdeal.Att

end
-- ==== Proof.Final.lean ====
/- The array the dense attention's call leaves: at every index, the attention of a query row over the
   context and latent keys. -/
module

public import proofs.«01_k».proof.Proof.Arrays

@[expose] public section

set_option maxRecDepth 16384

noncomputable section

namespace Cert.KernelIdeal.Att

open Cert.KernelIdeal Cert.KernelIdeal.Gen Cert.KernelIdeal.Value Idealize.ShloMosaic Idealize.ShloMosaic.TcCoe Idealize.SL.Sem Cert.Softmax

/-- The scores of query row `r` (batch `b`, key head `h`, query head `g` of the group) against all keys. -/
def rowScore (q : FVec Ideal S16x4096x4x4x64 .f32) (k : FVec Ideal S16x4096x4x64 .f32) (kc : FVec Ideal S16x256x4x64 .f32)
    (b : Fin 16) (r : Fin 4096) (h g : Fin 4) (x : Fin 4352) : EReal :=
  ∑ d : Fin 64, q (ix5 b r h g d) * Ideal.ofBits .f32 0x3E000000#32 * keys k kc b x h d

/-- The attention as an array of rows, heads side by side: column `256 h + 64 g + l` is lane `l` of the
    head `g` of group `h`. -/
def att (q : FVec Ideal S16x4096x4x4x64 .f32) (k v : FVec Ideal S16x4096x4x64 .f32) (kc vc : FVec Ideal S16x256x4x64 .f32) :
    FVec Ideal S16x4096x1024 .bf16 := fun y =>
  have hy : (y 2).val < 1024 := (y 2).isLt
  mix (rowScore q k kc (y 0) (y 1) ⟨(y 2).val / 256, by omega⟩ ⟨(y 2).val / 64 % 4, by omega⟩)
    (fun x => keys v vc (y 0) x ⟨(y 2).val / 256, by omega⟩ ⟨(y 2).val % 64, by omega⟩) (fun _ => 1)

/-- A block computed from rows of the argument arrays is that block of the attention. -/
theorem att_block (q : FVec Ideal S16x4096x4x4x64 .f32) (k v : FVec Ideal S16x4096x4x64 .f32) (kc vc : FVec Ideal S16x256x4x64 .f32)
    (qb : FVec Ideal S1x256x1024 .bf16) (kt : FVec Ideal S1x256x4352 .bf16) (vo : FVec Ideal S1x4352x512 .bf16)
    (b : Fin 16) (r : Fin 256) (R : Fin 4096)
    (hq : ∀ d : Fin 1024, qb (ix3 0 r d) = q (ix5 b R ⟨d.val / 256, by omega⟩ ⟨d.val / 64 % 4, by omega⟩ ⟨d.val % 64, by omega⟩) * Ideal.ofBits .f32 0x3E000000#32)
    (hk : ∀ (d : Fin 256) (x : Fin 4352), kt (ix3 0 d x) = keys k kc b x ⟨d.val / 64, by omega⟩ ⟨d.val % 64, by omega⟩)
    (hv : ∀ (x : Fin 4352) (h : Fin 4) (d : Fin 64), vo (ix3 0 x ⟨128 * h.val + d.val, by omega⟩) = keys v vc b x h d)
    (ho : ∀ (x : Fin 4352) (h : Fin 4), vo (ix3 0 x ⟨128 * h.val + 64, by omega⟩) = (1 : EReal)) (a : Fin 1) (col : Fin 1024) :
    attBlk qb kt vo (ix3 a r col) = att q k v kc vc (ix3 b R col) := by
  have e1 : score qb kt (col.val / 64) (by omega) r
      = rowScore q k kc b R ⟨col.val / 256, by omega⟩ ⟨col.val / 64 % 4, by omega⟩ := by
    funext x
    refine Finset.sum_congr rfl fun d _ => ?_
    rw [hq, hk]
    refine congrArg₂ (· * ·) (congrArg (· * _) (congrArg q ?_)) ?_
    · congr 1 <;> refine Fin.ext ?_ <;> dsimp only <;> omega
    · congr 1 <;> refine Fin.ext ?_ <;> dsimp only <;> omega
  have e2 : (fun x : Fin 4352 => vo (ix3 0 x ⟨128 * (col.val / 256) + col.val % 64, by omega⟩))
      = fun x => keys v vc b x ⟨col.val / 256, by omega⟩ ⟨col.val % 64, by omega⟩ :=
    funext fun x => hv x ⟨col.val / 256, by omega⟩ ⟨col.val % 64, by omega⟩
  have e3 : (fun x : Fin 4352 => vo (ix3 0 x ⟨128 * (col.val / 256) + 64, by omega⟩)) = fun _ => (1 : EReal) :=
    funext fun x => ho x ⟨col.val / 256, by omega⟩
  show mix (score qb kt (col.val / 64) _ r) (fun x : Fin 4352 => vo (ix3 0 x ⟨128 * (col.val / 256) + col.val % 64, _⟩))
    (fun x : Fin 4352 => vo (ix3 0 x ⟨128 * (col.val / 256) + 64, _⟩)) = _
  rw [e1, e2, e3]
  rfl

/-- Where the windows stand at a grid point: batch `t / 16`, query rows from `256 (t % 16)`. -/
theorem idx : ∀ t : Fin cfg0.N, win0_1.index t = ![t.val / 16, t.val % 16, 0] ∧ win0_2.index t = ![t.val / 16, 0, 0]
    ∧ win0_3.index t = ![t.val / 16, 0, 0] ∧ win0_4.index t = ![t.val / 16, t.val % 16, 0] ∧ t.val < 256 :=
  (by decide +kernel : ∀ t : Fin grid0.N, _)

/-- The query block of grid point `t`, of any array: rows `256 (t % 16)` onwards of batch `t / 16`. -/
theorem q_read (A : FVec Ideal S16x4096x1024 .bf16) (t : Fin cfg0.N) (ht : t.val < 256) (r : Fin 256) (d : Fin 1024) :
    (((cfg0.win 1).blk t).view.read (Elt Ideal) A : FVec Ideal S1x256x1024 .bf16) (ix3 0 r d)
      = A (ix3 ⟨t.val / 16, by omega⟩ ⟨t.val % 16 * 256 + r.val, by omega⟩ d) := by
  blk_ext [idx t]

/-- The key block of grid point `t`, of any array: batch `t / 16`. -/
theorem k_read (A : FVec Ideal S16x256x4352 .bf16) (t : Fin cfg0.N) (ht : t.val < 256) (d : Fin 256) (x : Fin 4352) :
    (((cfg0.win 2).blk t).view.read (Elt Ideal) A : FVec Ideal S1x256x4352 .bf16) (ix3 0 d x) = A (ix3 ⟨t.val / 16, by omega⟩ d x) := by
  blk_ext [idx t]

/-- The value block of grid point `t`, of any array: batch `t / 16`. -/
theorem v_read (A : FVec Ideal S16x4352x512 .bf16) (t : Fin cfg0.N) (ht : t.val < 256) (x : Fin 4352) (d : Fin 512) :
    (((cfg0.win 3).blk t).view.read (Elt Ideal) A : FVec Ideal S1x4352x512 .bf16) (ix3 0 x d) = A (ix3 ⟨t.val / 16, by omega⟩ x d) := by
  blk_ext [idx t]

variable (m : (ℓ : Loc nD τ sig) → Buf (Elt Ideal) ℓ) (c : Dev nD)

/-- The array after the run is the attention of the arguments. -/
theorem final (q : FVec Ideal S16x4096x4x4x64 .f32) (k v : FVec Ideal S16x4096x4x64 .f32) (kc vc : FVec Ideal S16x256x4x64 .f32)
    (h0 : m ((c.tc : Thread nD τ).loc main_arg0) = q) (h1 : m ((c.tc : Thread nD τ).loc main_arg1) = k)
    (h2 : m ((c.tc : Thread nD τ).loc main_arg2) = v) (h3 : m ((c.tc : Thread nD τ).loc main_arg3) = kc)
    (h4 : m ((c.tc : Thread nD τ).loc main_arg4) = vc) :
    (dats m 0 c).arrAt 4 cfg0.N = att q k v kc vc := by
  refine (dats m 0 c).arrAt_eq_of_covers 4 _ (by decide +kernel) fun t hf y => ?_
  blk_simp
  rw [after0_4]
  unfold outsAt0
  refine (out_block ..).trans ?_
  have ht : t.val < 256 := (idx t).2.2.2.2
  idx_vars y
  refine (att_block q k v kc vc _ _ _ ⟨t.val / 16, by omega⟩ y1 ⟨t.val % 16 * 256 + y1.val, by omega⟩
    (fun d => (q_read (V m c main_v3) t ht y1 d).trans (query_at m c q h0 _ _ _))
    (fun d x => (k_read (V m c main_v14) t ht d x).trans (key_at m c k kc h1 h3 _ _ _))
    (fun x h d => (v_read (V m c main_v22) t ht x _).trans (value_at m c v vc h2 h4 _ _ _ _))
    (fun x h => (v_read (V m c main_v22) t ht x _).trans (ones_at m c _ _ _)) y0 y2).trans ?_
  blk_ext [idx t]

end Cert.KernelIdeal.Att

end
-- ==== Proof.Stages.lean ====
/- The reference of the dense attention as its stages: the scores, their largest, the exponentials,
   their sum, and the weighted values. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe Idealize.SL.Sem

/-- The scores against the context keys. -/
def scoreCtx (kc : FVec Ideal S16x256x4x64 .f32) (q : FVec Ideal S16x4096x4x4x64 .f32) : FVec Ideal S16x4x4x4096x256 .f32 :=
  mulf (transpose S16x4x4x4096x256 [0, 1, 4, 3, 2] (Host.dotGeneral dot_S16x256x4x64_S16x4096x4x4x64_S16x4x256x4096x4_3_4_1_13_02_02 none kc q)
      transposes_S16x4x256x4096x4_S16x4x4x4096x256_0_1_4_3_2)
    (broadcastInDim S16x4x4x4096x256 ![] bcast_S_S16x4x4x4096x256 (constant S_ .f32 0x3E000000#32))

/-- The scores against the latent keys. -/
def scoreLat (k : FVec Ideal S16x4096x4x64 .f32) (q : FVec Ideal S16x4096x4x4x64 .f32) : FVec Ideal S16x4x4x4096x4096 .f32 :=
  mulf (transpose S16x4x4x4096x4096 [0, 1, 4, 3, 2] (Host.dotGeneral dot_S16x4096x4x64_S16x4096x4x4x64_S16x4x4096x4096x4_3_4_1_13_02_02 none k q)
      transposes_S16x4x4096x4096x4_S16x4x4x4096x4096_0_1_4_3_2)
    (broadcastInDim S16x4x4x4096x4096 ![] bcast_S_S16x4x4x4096x4096 (constant S_ .f32 0x3E000000#32))

/-- The largest score of every row. -/
def largest (s₁ : FVec Ideal S16x4x4x4096x256 .f32) (s₂ : FVec Ideal S16x4x4x4096x4096 .f32) : FVec Ideal S16x4x4x4096x1 .f32 :=
  maximumf
    (broadcastInDim S16x4x4x4096x1 ![0, 1, 2, 3] bcast_S16x4x4x4096_S16x4x4x4096x1_0_1_2_3
      (Host.reduce FloatOps.maximumf s₁ (constant S_ .f32 0xFF800000#32) reducesTo_S16x4x4x4096x256_S16x4x4x4096_d4 h_S_))
    (broadcastInDim S16x4x4x4096x1 ![0, 1, 2, 3] bcast_S16x4x4x4096_S16x4x4x4096x1_0_1_2_3
      (Host.reduce FloatOps.maximumf s₂ (constant S_ .f32 0xFF800000#32) reducesTo_S16x4x4x4096x4096_S16x4x4x4096_d4 h_S_))

/-- The exponentials over the context keys. -/
def expCtx (s₁ : FVec Ideal S16x4x4x4096x256 .f32) (M : FVec Ideal S16x4x4x4096x1 .f32) : FVec Ideal S16x4x4x4096x256 .f32 :=
  Host.exp (subf s₁ (broadcastInDim S16x4x4x4096x256 ![0, 1, 2, 3, 4] bcast_S16x4x4x4096x1_S16x4x4x4096x256_0_1_2_3_4 M))

/-- The exponentials over the latent keys. -/
def expLat (s₂ : FVec Ideal S16x4x4x4096x4096 .f32) (M : FVec Ideal S16x4x4x4096x1 .f32) : FVec Ideal S16x4x4x4096x4096 .f32 :=
  Host.exp (subf s₂ (broadcastInDim S16x4x4x4096x4096 ![0, 1, 2, 3, 4] bcast_S16x4x4x4096x1_S16x4x4x4096x4096_0_1_2_3_4 M))

/-- The sum of a row's exponentials. -/
def denom (e₁ : FVec Ideal S16x4x4x4096x256 .f32) (e₂ : FVec Ideal S16x4x4x4096x4096 .f32) : FVec Ideal S16x4x4x4096x1 .f32 :=
  addf
    (broadcastInDim S16x4x4x4096x1 ![0, 1, 2, 3] bcast_S16x4x4x4096_S16x4x4x4096x1_0_1_2_3
      (Host.reduceAdd e₁ (constant S_ .f32 0x00000000#32) reducesTo_S16x4x4x4096x256_S16x4x4x4096_d4 h_S_))
    (broadcastInDim S16x4x4x4096x1 ![0, 1, 2, 3] bcast_S16x4x4x4096_S16x4x4x4096x1_0_1_2_3
      (Host.reduceAdd e₂ (constant S_ .f32 0x00000000#32) reducesTo_S16x4x4x4096x4096_S16x4x4x4096_d4 h_S_))

/-- The normalised weights times the values. -/
def values (vc : FVec Ideal S16x256x4x64 .f32) (v : FVec Ideal S16x4096x4x64 .f32)
    (e₁ : FVec Ideal S16x4x4x4096x256 .f32) (e₂ : FVec Ideal S16x4x4x4096x4096 .f32) (D : FVec Ideal S16x4x4x4096x1 .f32) :
    FVec Ideal S16x4096x1024 .bf16 :=
  truncf .bf16 (shapeCast S16x4096x1024 (addf
    (transpose S16x4096x4x4x64 [0, 4, 1, 3, 2] (Host.dotGeneral dot_S16x256x4x64_S16x4x4x4096x256_S16x4x64x4x4096_1_4_3_23_02_01 none vc
      (Host.divf e₁ (broadcastInDim S16x4x4x4096x256 ![0, 1, 2, 3, 4] bcast_S16x4x4x4096x1_S16x4x4x4096x256_0_1_2_3_4 D)))
      transposes_S16x4x64x4x4096_S16x4096x4x4x64_0_4_1_3_2)
    (transpose S16x4096x4x4x64 [0, 4, 1, 3, 2] (Host.dotGeneral dot_S16x4096x4x64_S16x4x4x4096x4096_S16x4x64x4x4096_1_4_3_23_02_01 none v
      (Host.divf e₂ (broadcastInDim S16x4x4x4096x4096 ![0, 1, 2, 3, 4] bcast_S16x4x4x4096x1_S16x4x4x4096x4096_0_1_2_3_4 D)))
      transposes_S16x4x64x4x4096_S16x4096x4x4x64_0_4_1_3_2)) shapeCasts_S16x4096x4x4x64_S16x4096x1024) bitsLt_bf16_f32

/-- The reference's result is its stages one after another. -/
theorem out_stages (m : (ℓ : Loc nD τ sig) → Buf (Elt Ideal) ℓ) (c : Dev nD) (q : FVec Ideal S16x4096x4x4x64 .f32)
    (k v : FVec Ideal S16x4096x4x64 .f32) (kc vc : FVec Ideal S16x256x4x64 .f32)
    (h0 : m ((c.tc : Thread nD τ).loc main_arg0) = q) (h1 : m ((c.tc : Thread nD τ).loc main_arg1) = k)
    (h2 : m ((c.tc : Thread nD τ).loc main_arg2) = v) (h3 : m ((c.tc : Thread nD τ).loc main_arg3) = kc)
    (h4 : m ((c.tc : Thread nD τ).loc main_arg4) = vc) :
    res_out0 m c =
      values vc v (expCtx (scoreCtx kc q) (largest (scoreCtx kc q) (scoreLat k q)))
        (expLat (scoreLat k q) (largest (scoreCtx kc q) (scoreLat k q)))
        (denom (expCtx (scoreCtx kc q) (largest (scoreCtx kc q) (scoreLat k q)))
          (expLat (scoreLat k q) (largest (scoreCtx kc q) (scoreLat k q)))) := by
  subst h0 h1 h2 h3 h4
  rfl

end Cert.ReferenceIdeal.Att

end
-- ==== Proof.Reference.lean ====
/- The stages of the reference of the dense attention, each read at an index. -/
module

public import proofs.«01_k».proof.Proof.Stages
public import proofs.«01_k».proof.Proof.Softmax
public import Idealize.ShloMosaic.Lib.Pointwise
public import Idealize.ShloMosaic.Lib.Tactic.CleanTypes

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe Idealize.SL.Sem Cert.Softmax

theorem scoreCtx_at (kc : FVec Ideal S16x256x4x64 .f32) (q : FVec Ideal S16x4096x4x4x64 .f32)
    (b : Fin 16) (h g : Fin 4) (r : Fin 4096) (x : Fin 256) :
    scoreCtx kc q (ix5 b h g r x) = (∑ d : Fin 64, kc (ix4 b x h d) * q (ix5 b r h g d)) * Ideal.ofBits .f32 0x3E000000#32 := by
  pointwise [scoreCtx]

theorem scoreLat_at (k : FVec Ideal S16x4096x4x64 .f32) (q : FVec Ideal S16x4096x4x4x64 .f32)
    (b : Fin 16) (h g : Fin 4) (r x : Fin 4096) :
    scoreLat k q (ix5 b h g r x) = (∑ d : Fin 64, k (ix4 b x h d) * q (ix5 b r h g d)) * Ideal.ofBits .f32 0x3E000000#32 := by
  pointwise [scoreLat]

theorem topCtx_at (s₁ : FVec Ideal S16x4x4x4096x256 .f32) (b : Fin 16) (h g : Fin 4) (r : Fin 4096) :
    Host.reduce FloatOps.maximumf s₁ (constant S_ .f32 0xFF800000#32) reducesTo_S16x4x4x4096x256_S16x4x4x4096_d4 h_S_ (ix4 b h g r)
      = top fun x : Fin 256 => s₁ (ix5 b h g r x) := by
  pointwise [top]

theorem topLat_at (s₂ : FVec Ideal S16x4x4x4096x4096 .f32) (b : Fin 16) (h g : Fin 4) (r : Fin 4096) :
    Host.reduce FloatOps.maximumf s₂ (constant S_ .f32 0xFF800000#32) reducesTo_S16x4x4x4096x4096_S16x4x4x4096_d4 h_S_ (ix4 b h g r)
      = top fun x : Fin 4096 => s₂ (ix5 b h g r x) := by
  pointwise [top]

theorem row_at (e : FVec Ideal S16x4x4x4096 .f32) (b : Fin 16) (h g : Fin 4) (r : Fin 4096) :
    broadcastInDim S16x4x4x4096x1 ![0, 1, 2, 3] bcast_S16x4x4x4096_S16x4x4x4096x1_0_1_2_3 e (ix5 b h g r 0) = e (ix4 b h g r) := by
  pointwise []

theorem max_at (e₁ e₂ : FVec Ideal S16x4x4x4096x1 .f32) (i : S16x4x4x4096x1.Idx) : maximumf e₁ e₂ i = max (e₁ i) (e₂ i) := rfl

theorem largest_at (s₁ : FVec Ideal S16x4x4x4096x256 .f32) (s₂ : FVec Ideal S16x4x4x4096x4096 .f32)
    (b : Fin 16) (h g : Fin 4) (r : Fin 4096) :
    largest s₁ s₂ (ix5 b h g r 0) = max (top fun x : Fin 256 => s₁ (ix5 b h g r x)) (top fun x : Fin 4096 => s₂ (ix5 b h g r x)) := by
  unfold largest
  rw [max_at, row_at, row_at, topCtx_at, topLat_at]

theorem expCtx_at (s₁ : FVec Ideal S16x4x4x4096x256 .f32) (M : FVec Ideal S16x4x4x4096x1 .f32)
    (b : Fin 16) (h g : Fin 4) (r : Fin 4096) (x : Fin 256) :
    expCtx s₁ M (ix5 b h g r x) = Ideal.exp (s₁ (ix5 b h g r x) - M (ix5 b h g r 0)) := by
  pointwise [expCtx]

theorem expLat_at (s₂ : FVec Ideal S16x4x4x4096x4096 .f32) (M : FVec Ideal S16x4x4x4096x1 .f32)
    (b : Fin 16) (h g : Fin 4) (r x : Fin 4096) :
    expLat s₂ M (ix5 b h g r x) = Ideal.exp (s₂ (ix5 b h g r x) - M (ix5 b h g r 0)) := by
  pointwise [expLat]

theorem denom_at (e₁ : FVec Ideal S16x4x4x4096x256 .f32) (e₂ : FVec Ideal S16x4x4x4096x4096 .f32)
    (b : Fin 16) (h g : Fin 4) (r : Fin 4096) :
    denom e₁ e₂ (ix5 b h g r 0) = ∑ x : Fin 256, e₁ (ix5 b h g r x) + ∑ x : Fin 4096, e₂ (ix5 b h g r x) := by
  pointwise [denom]

theorem values_at (vc : FVec Ideal S16x256x4x64 .f32) (v : FVec Ideal S16x4096x4x64 .f32)
    (e₁ : FVec Ideal S16x4x4x4096x256 .f32) (e₂ : FVec Ideal S16x4x4x4096x4096 .f32) (D : FVec Ideal S16x4x4x4096x1 .f32)
    (b : Fin 16) (r : Fin 4096) (d : Fin 1024) :
    values vc v e₁ e₂ D (ix3 b r d)
      = (∑ x : Fin 256, vc (ix4 b x ⟨d.val / 256, by omega⟩ ⟨d.val % 64, by omega⟩)
            * Ideal.div (e₁ (ix5 b ⟨d.val / 256, by omega⟩ ⟨d.val / 64 % 4, by omega⟩ r x))
                (D (ix5 b ⟨d.val / 256, by omega⟩ ⟨d.val / 64 % 4, by omega⟩ r 0)))
        + ∑ x : Fin 4096, v (ix4 b x ⟨d.val / 256, by omega⟩ ⟨d.val % 64, by omega⟩)
            * Ideal.div (e₂ (ix5 b ⟨d.val / 256, by omega⟩ ⟨d.val / 64 % 4, by omega⟩ r x))
                (D (ix5 b ⟨d.val / 256, by omega⟩ ⟨d.val / 64 % 4, by omega⟩ r 0)) := by
  pointwise [values]

end Cert.ReferenceIdeal.Att

end
-- ==== Proof.Equation.lean ====
/- The attention that the call leaves is the reference's, when queries and keys are finite. -/
module

public import proofs.«01_k».proof.Proof.Final
public import proofs.«01_k».proof.Proof.Reference

@[expose] public section

set_option maxRecDepth 16384

noncomputable section

namespace Cert.KernelIdeal.Att

open Cert.KernelIdeal Idealize.ShloMosaic Cert.Softmax
open Cert.ReferenceIdeal.Att (scoreCtx scoreLat largest expCtx expLat denom values scoreCtx_at scoreLat_at largest_at expCtx_at expLat_at denom_at values_at)

/-- The scale of the scores is an eighth. -/
theorem eighth : Ideal.ofBits .f32 0x3E000000#32 = ((1 / 8 : ℝ) : EReal) := by
  simp [Ideal.ofBits, Ideal.ieee]
  rw [← EReal.coe_mul]
  norm_num

/-- Scaling the queries scales the score. -/
theorem scale_sum (a b : Fin 64 → EReal) :
    ∑ d, a d * Ideal.ofBits .f32 0x3E000000#32 * b d = (∑ d, b d * a d) * Ideal.ofBits .f32 0x3E000000#32 := by
  rw [eighth, sum_mul_of_nonneg _ _ _ (by exact_mod_cast (by norm_num : (0 : ℝ) ≤ 1 / 8)) (EReal.coe_ne_top _)]
  refine Finset.sum_congr rfl fun d _ => ?_
  rw [mul_right_comm, mul_comm (a d)]

theorem coe_sum (f : Fin 64 → ℝ) : ((∑ d, f d : ℝ) : EReal) = ∑ d, (f d : EReal) :=
  map_sum (⟨⟨Real.toEReal, EReal.coe_zero⟩, EReal.coe_add⟩ : ℝ →+ EReal) f Finset.univ

/-- A sum of products of reals is real. -/
theorem sum_real (a b : Fin 64 → EReal) (ha : ∀ d, ∃ r : ℝ, a d = r) (hb : ∀ d, ∃ r : ℝ, b d = r) :
    ∃ r : ℝ, ∑ d, a d * Ideal.ofBits .f32 0x3E000000#32 * b d = r := by
  choose f hf using ha
  choose g hg using hb
  refine ⟨∑ d, f d * (1 / 8) * g d, ?_⟩
  rw [coe_sum]
  refine Finset.sum_congr rfl fun d _ => ?_
  rw [hf, hg, eighth, EReal.coe_mul, EReal.coe_mul]

variable (q : FVec Ideal S16x4096x4x4x64 .f32) (k v : FVec Ideal S16x4096x4x64 .f32) (kc vc : FVec Ideal S16x256x4x64 .f32)

/-- Among all keys the first 256 are the context's. -/
theorem keys_ctx (b : Fin 16) (x : Fin 256) (h : Fin 4) (d : Fin 64) :
    keys k kc b (Fin.castAdd 4096 x) h d = kc (ix4 b x h d) :=
  dif_pos x.isLt

/-- Among all keys those from 256 on are the latents'. -/
theorem keys_lat (b : Fin 16) (x : Fin 4096) (h : Fin 4) (d : Fin 64) :
    keys k kc b (Fin.natAdd 256 x) h d = k (ix4 b x h d) := by
  refine (dif_neg (by simp)).trans (congrArg k (congrFun (congrFun (congrArg (ix4 b) (Fin.ext ?_)) h) d))
  show 256 + x.val - 256 = x.val
  omega

theorem rowScore_ctx (b : Fin 16) (r : Fin 4096) (h g : Fin 4) (x : Fin 256) :
    rowScore q k kc b r h g (Fin.castAdd 4096 x) = scoreCtx kc q (ix5 b h g r x) := by
  rw [scoreCtx_at]
  unfold rowScore
  simp only [keys_ctx]
  exact scale_sum _ _

theorem rowScore_lat (b : Fin 16) (r : Fin 4096) (h g : Fin 4) (x : Fin 4096) :
    rowScore q k kc b r h g (Fin.natAdd 256 x) = scoreLat k q (ix5 b h g r x) := by
  rw [scoreLat_at]
  unfold rowScore
  simp only [keys_lat]
  exact scale_sum _ _

theorem rowScore_real (hq : ∀ i, ∃ r : ℝ, q i = r) (hk : ∀ i, ∃ r : ℝ, k i = r) (hkc : ∀ i, ∃ r : ℝ, kc i = r)
    (b : Fin 16) (r : Fin 4096) (h g : Fin 4) (x : Fin 4352) : ∃ s : ℝ, rowScore q k kc b r h g x = s := by
  refine sum_real _ _ (fun d => hq _) fun d => ?_
  unfold keys
  split
  · exact hkc _
  · exact hk _

/-- The equation: the attention over the joined keys, divided once, is the reference's. -/
theorem att_eq (hq : ∀ i, ∃ r : ℝ, q i = r) (hk : ∀ i, ∃ r : ℝ, k i = r) (hkc : ∀ i, ∃ r : ℝ, kc i = r) :
    att q k v kc vc =
      values vc v (expCtx (scoreCtx kc q) (largest (scoreCtx kc q) (scoreLat k q)))
        (expLat (scoreLat k q) (largest (scoreCtx kc q) (scoreLat k q)))
        (denom (expCtx (scoreCtx kc q) (largest (scoreCtx kc q) (scoreLat k q)))
          (expLat (scoreLat k q) (largest (scoreCtx kc q) (scoreLat k q)))) := by
  funext y
  idx_vars y
  rw [values_at]
  simp only [denom_at, expCtx_at, expLat_at, largest_at]
  exact mix_append (n₁ := 256) (n₂ := 4095) (rowScore q k kc y0 y1 ⟨y2.val / 256, by omega⟩ ⟨y2.val / 64 % 4, by omega⟩) _ _ _ _ _ _
    (rowScore_real q k kc hq hk hkc _ _ _ _) (fun _ => rfl)
    (rowScore_ctx q k kc _ _ _ _) (rowScore_lat q k kc _ _ _ _) (fun x => keys_ctx v vc _ x _ _) (fun x => keys_lat v vc _ x _ _)

end Cert.KernelIdeal.Att

end
-- ==== Proof.Finite.lean ====
/- The precondition read at an element: queries and keys are real. -/
module

public import proofs.«01_k».proof.Defs
public import Idealize.ShloMosaic.Lib.Pointwise

@[expose] public section

set_option maxRecDepth 16384

noncomputable section

namespace Cert.Pre_finite_scores

open Idealize.ShloMosaic Cert.Pre_finite_scores

/-- The side conditions of the precondition's operations. -/
theorem side : Facts where
  shapeCasts_S16x4096x4x4x64_S16x16384x4x64 := by decide
  bcast_S_S16x16384x4x64 := by decide
  bcast_S_S16x4096x4x64 := by decide
  bcast_S_S16x256x4x64 := by decide
  concatenates_S16x16384x4x64_S16x4096x4x64_S16x256x4x64_S16x20736x4x64_d1 := by decide

/-- An extended real of absolute value below infinity is real. -/
theorem real_of_lt (x : EReal)
    (h : BitVec.ofBool (decide (FloatOps.absf (F := Ideal) (φ := .f32) x < Ideal.ofBits .f32 0x7F800000#32)) = 1#1) : ∃ r : ℝ, x = r := by
  have e : Ideal.ofBits .f32 0x7F800000#32 = ⊤ := by simp [Ideal.ofBits, Ideal.ieee]
  rw [Ideal.absf_def, e] at h
  induction x with
  | bot => simp at h
  | top => simp at h
  | coe r => exact ⟨r, rfl⟩

variable [Facts] (q : FVec Ideal S16x4096x4x4x64 .f32) (k v : FVec Ideal S16x4096x4x64 .f32) (kc vc : FVec Ideal S16x256x4x64 .f32)
  (h : fn (F := Ideal) q k v kc vc = fun _ => 1#1)

include h

theorem q_real (i : S16x4096x4x4x64.Idx) : ∃ r : ℝ, q i = r := by
  idx_vars i
  have e := congrFun h (ix4 i0 ⟨4 * i1.val + i2.val, by omega⟩ i3 i4)
  revert e
  pointwise [fn]
  rw [dif_pos (by omega)]
  exact real_of_lt _

theorem k_real (i : S16x4096x4x64.Idx) : ∃ r : ℝ, k i = r := by
  idx_vars i
  have e := congrFun h (ix4 i0 ⟨16384 + i1.val, by omega⟩ i2 i3)
  revert e
  pointwise [fn]
  exact real_of_lt _

theorem kc_real (i : S16x256x4x64.Idx) : ∃ r : ℝ, kc i = r := by
  idx_vars i
  have e := congrFun h (ix4 i0 ⟨20480 + i1.val, by omega⟩ i2 i3)
  revert e
  pointwise [fn]
  rw [dif_neg (by omega), dif_neg (by omega)]
  intro e
  obtain ⟨r, hr⟩ := real_of_lt _ e
  refine ⟨r, .trans (congrArg kc (congrFun (congrFun (congrArg (ix4 i0) (Fin.ext ?_)) i2) i3)) hr⟩
  dsimp only
  omega

end Cert.Pre_finite_scores

end
-- ==== Proof.ProjBlock.lean ====
/- What one grid point of the projection leaves in its four output blocks, as functions of the blocks it reads. -/
module

public import proofs.«01_k».proof.Proof.Gen.Kernel2Ideal.Value
public import proofs.«01_k».proof.Proof.ProjMath
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen Idealize.ShloMosaic Idealize.ShloMosaic.TcCoe Idealize.SL.Sem Cert.Proj

variable (z0 : Vec Ideal S1x512x1024 .f32) (z1 : Vec Ideal S1x1024 .f32) (z2 z3 : Vec Ideal S1x1x1024 .f32)
  (w : Vec Ideal S1024x2304 .bf16) (cs sn : Vec Ideal S512x128 .f32) (z7 : Vec Ideal S8x128 .f32) (z8 : Vec Ideal S128x128 .bf16)

/-- Column `col` of row `r` of the block's projection. -/
def seg (r : Fin 512) (col : Fin 2304) : EReal :=
  proj (fun e => z0 (ix3 0 r e)) (fun e => z1 (ix2 0 e)) (fun e => z2 (ix3 0 0 e)) (fun e => z3 (ix3 0 0 e)) (fun e => w (ix2 e col))

/-- The modulated rows the kernel computes. -/
theorem modulated_at (r : Fin 512) (d : Fin 1024) :
    k0_pay3 (F := Ideal) z0 z1 z2 z3 (ix2 r d)
      = modulated (fun e => z0 (ix3 0 r e)) (fun e => z1 (ix2 0 e)) (fun e => z2 (ix3 0 0 e)) (fun e => z3 (ix3 0 0 e)) d := by
  pointwise [k0_pay3, modulated]

/-- A product of 128 lanes with its rotation by two tables: the lanes' partners stand 16 lanes up or down. -/
def turn (f c s : Fin 128 → EReal) (l : Fin 128) : EReal :=
  f l * c l + (if l.val % 32 < 16 then f ⟨(l.val + 16) % 128, by omega⟩ else f ⟨(l.val + 112) % 128, by omega⟩) * s l

/-- The kernel's test of a lane: whether its place among 32 lanes is in the first half. -/
def firstHalf (l : Fin 128) : BitVec 1 :=
  IntOp.cmpi CmpIPredicate.slt
    (Scalar.select
      (IntOp.andi
        (IntOp.xori
          (IntOp.cmpi CmpIPredicate.slt (IntOp.remsi ArithUnit.vector (BitVec.ofNat 32 l.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32)))
    16#32

theorem firstHalf_eq : ∀ l : Fin 128, firstHalf l = if l.val % 32 < 16 then 1#1 else 0#1 := by decide +kernel

/-- Lanes chosen by the kernel's test. -/
theorem select_firstHalf (l : Fin 128) (a b : EReal) : Scalar.select (firstHalf l) a b = if l.val % 32 < 16 then a else b := by
  rw [firstHalf_eq]
  split <;> rfl

/-- A chunk of 128 query columns as it is stored. -/
theorem turn_q (v : FVec Ideal S512x128 .f32) (c s : Vec Ideal S512x128 .f32) (a : Fin 1) (r : Fin 512) (l : Fin 128) :
    k0_pay11 (F := Ideal) v (Scalar.select (Scalar.cmpi .eq 32#32 0#32) 1#32 32#32) k0_pay10 c s (ix3 a r l)
      = turn (fun l => v (ix2 r l)) (fun l => c (ix2 r l)) (fun l => s (ix2 r l)) l * Ideal.ofBits .f32 0x3E000000#32 := by
  pointwise [k0_pay11, k0_pay10, turn]
  rw [← select_firstHalf]
  rfl

/-- The key columns as they are stored. -/
theorem turn_k (v : FVec Ideal S512x128 .f32) (c s : Vec Ideal S512x128 .f32) (a : Fin 1) (r : Fin 512) (l : Fin 128) :
    k0_pay1 (F := Ideal) v (Scalar.select (Scalar.cmpi .eq 32#32 0#32) 1#32 32#32) k0_pay18 k0_pay19 k0_pay20 0#32 c s (ix3 a r l)
      = turn (fun l => v (ix2 r l)) (fun l => c (ix2 r l)) (fun l => s (ix2 r l)) l := by
  pointwise [k0_pay1, k0_pay18, k0_pay19, k0_pay20, turn]
  rw [← select_firstHalf]
  rfl

section Stores
variable (v : FVec Ideal S512x128 .f32) (p : FVec Ideal S512x512 .f32) (hb : FVec Ideal S512x1024 .bf16) (wb : Vec Ideal S1024x512 .bf16) (c s : Vec Ideal S512x128 .f32)

/-! The stores of the four chunks of queries are one function of the chunk and the tables, however the
    kernel's text cuts them into parts. -/

theorem store0 : k0_pay6 hb wb c s = k0_pay11 (extractStridedSlice S512x128 ![0, 0] (k0_pay5 hb wb) slices_S512x512_o0_0_S512x128) (Scalar.select (Scalar.cmpi .eq 32#32 0#32) 1#32 32#32) k0_pay10 c s := rfl
theorem store1 : k0_pay8 v (iota .tc S512x128 32 [1] iota_S512x128_d1_w32) 32#32 c s = k0_pay11 v (Scalar.select (Scalar.cmpi .eq 32#32 0#32) 1#32 32#32) k0_pay10 c s := rfl
theorem store3 : k0_pay16 v (Scalar.select (Scalar.cmpi .eq 32#32 0#32) 1#32 32#32) k0_pay13 k0_pay14 k0_pay15 c s = k0_pay11 v (Scalar.select (Scalar.cmpi .eq 32#32 0#32) 1#32 32#32) k0_pay10 c s := rfl

end Stores

/-- The block of queries: in the chunk of column `l`, the 128 projected columns rotated, and scaled. -/
def qBlk (r : Fin 512) (l : Fin 512) : EReal :=
  turn (fun e => seg z0 z1 z2 z3 w r ⟨1536 + (l.val / 128 * 128 + e.val), by omega⟩) (fun e => cs (ix2 r e)) (fun e => sn (ix2 r e)) ⟨l.val % 128, by omega⟩
    * Ideal.ofBits .f32 0x3E000000#32

/-- The block of keys. -/
def kBlk (r : Fin 512) (l : Fin 128) : EReal :=
  turn (fun e => seg z0 z1 z2 z3 w r ⟨2048 + e.val, by omega⟩) (fun e => cs (ix2 r e)) (fun e => sn (ix2 r e)) l

/-- A chunk of queries is that part of their block, when its lanes are those of the projection. -/
theorem chunk_eq (v : FVec Ideal S512x128 .f32) (c s : Vec Ideal S512x128 .f32) (x : S1x512x128.Idx) (y0 : Fin 1) (r : Fin 512) (l : Fin 512) (j : ℕ) (hj : j < 4)
    (h1 : r.val = (x 1 : ℕ)) (h2 : l.val = j * 128 + (x 2 : ℕ))
    (hv : ∀ (r : Fin 512) (e : Fin 128), v (ix2 r e) = seg z0 z1 z2 z3 w r ⟨1536 + (j * 128 + e.val), by omega⟩)
    (hc : ∀ (r : Fin 512) (e : Fin 128), c (ix2 r e) = cs (ix2 r e)) (hs : ∀ (r : Fin 512) (e : Fin 128), s (ix2 r e) = sn (ix2 r e)) :
    k0_pay11 (F := Ideal) v (Scalar.select (Scalar.cmpi .eq 32#32 0#32) 1#32 32#32) k0_pay10 c s x = qBlk z0 z1 z2 z3 w cs sn r l := by
  idx_vars x
  obtain rfl : r = x1 := Fin.ext h1
  obtain rfl : j = l.val / 128 := by have := x2.isLt; have : l.val = j * 128 + x2.val := h2; omega
  have e : x2 = ⟨l.val % 128, by omega⟩ := Fin.ext (by have : l.val = l.val / 128 * 128 + x2.val := h2; dsimp only; omega)
  rw [e, turn_q]
  unfold qBlk
  simp only [hv, hc, hs]

/-- The projection's first columns as they are stored. -/
theorem out9 (y0 : Fin 1) (r : Fin 512) (l : Fin 1536) :
    out0_9 (F := Ideal) z0 z1 z2 z3 w cs sn z7 z8 (ix3 y0 r l) = seg z0 z1 z2 z3 w r ⟨l.val, by omega⟩ := by
  unfold_out out0_9
  canon_tiles x h
  idx_vars x
  obtain rfl : r = x1 := Fin.ext h1
  obtain rfl : l = x2 := Fin.ext h2
  pointwise [k0_pay4, modulated_at, seg, proj]

/-- The projection's last columns as they are stored. -/
theorem out12 (y0 : Fin 1) (r : Fin 512) (l : Fin 128) :
    out0_12 (F := Ideal) z0 z1 z2 z3 w cs sn z7 z8 (ix3 y0 r l) = seg z0 z1 z2 z3 w r ⟨2176 + l.val, by omega⟩ := by
  unfold_out out0_12
  canon_tiles x h
  idx_vars x
  obtain rfl : r = x1 := Fin.ext h1
  obtain rfl : l = x2 := Fin.ext h2
  pointwise [k0_pay2, modulated_at, seg, proj]

/-- The queries as they are stored. -/
theorem out10 (y0 : Fin 1) (r : Fin 512) (l : Fin 512) :
    out0_10 (F := Ideal) z0 z1 z2 z3 w cs sn z7 z8 (ix3 y0 r l) = qBlk z0 z1 z2 z3 w cs sn r l := by
  unfold_out out0_10
  canon_tiles x h
  all_goals (try simp only [store0, store1, store3])
  case piece0 => exact chunk_eq z0 z1 z2 z3 w cs sn _ _ _ x y0 r l 3 (by decide) h1 (h2.trans (by omega)) (fun r e => by pointwise [k0_pay12, k0_pay5, modulated_at, seg, proj]) (fun r e => by pointwise []) (fun r e => by pointwise [])
  case piece1 => exact chunk_eq z0 z1 z2 z3 w cs sn _ _ _ x y0 r l 2 (by decide) h1 (h2.trans (by omega)) (fun r e => by pointwise [k0_pay9, k0_pay5, modulated_at, seg, proj]) (fun r e => by pointwise []) (fun r e => by pointwise [])
  case piece2 => exact chunk_eq z0 z1 z2 z3 w cs sn _ _ _ x y0 r l 1 (by decide) h1 (h2.trans (by omega)) (fun r e => by pointwise [k0_pay7, k0_pay5, modulated_at, seg, proj]) (fun r e => by pointwise []) (fun r e => by pointwise [])
  case piece3 => exact chunk_eq z0 z1 z2 z3 w cs sn _ _ _ x y0 r l 0 (by decide) h1 (h2.trans (by omega)) (fun r e => by pointwise [k0_pay5, modulated_at, seg, proj]) (fun r e => by pointwise []) (fun r e => by pointwise [])

/-- The keys as they are stored. -/
theorem out11 (y0 : Fin 1) (r : Fin 512) (l : Fin 128) :
    out0_11 (F := Ideal) z0 z1 z2 z3 w cs sn z7 z8 (ix3 y0 r l) = kBlk z0 z1 z2 z3 w cs sn r l := by
  unfold_out out0_11
  canon_tiles x h
  idx_vars x
  obtain rfl : r = x1 := Fin.ext h1
  obtain rfl : l = x2 := Fin.ext h2
  rw [turn_k]
  unfold kBlk
  congr 1
  · funext e
    pointwise [k0_pay17, modulated_at, seg, proj]
  · funext e
    pointwise []
  · funext e
    pointwise []

end Cert.Kernel2Ideal.Proj

end
-- ==== Proof.ProjArrays.lean ====
/- The arrays the projection's call reads, but for its tables, as functions of the arguments. -/
module

public import proofs.«01_k».proof.Proof.ProjBlock
public import Idealize.ShloMosaic.Lib.Tactic.CleanTypes
public import Idealize.ShloMosaic.Lib.Claim
public import Idealize.ShloMosaic.Lib.StableHlo.ReadAt

@[expose] public section

set_option maxRecDepth 16384

noncomputable section

namespace Cert.Kernel2Ideal.Proj

open Cert.Kernel2Ideal Cert.Kernel2Ideal.Gen Cert.Kernel2Ideal.Value Idealize.ShloMosaic Idealize.ShloMosaic.TcCoe Idealize.SL.Sem Cert.Proj

variable (m : (ℓ : Loc nD τ sig) → Buf (Elt Ideal) ℓ) (c : Dev nD)

/-- The modulation's scales, a row for each batch. -/
theorem scale_at (a : FVec Ideal S16x1024 .f32) (h : m ((c.tc : Thread nD τ).loc main_arg2) = a) (b : Fin 16) (d : Fin 1024) :
    (V m c main_v0 : FVec Ideal S16x1x1024 .f32) (ix3 b 0 d) = a (ix2 b d) := by
  subst h
  unfold V
  after_reads_at

/-- The modulation's shifts. -/
theorem shift_at (a : FVec Ideal S16x1024 .f32) (h : m ((c.tc : Thread nD τ).loc main_arg3) = a) (b : Fin 16) (d : Fin 1024) :
    (V m c main_v1 : FVec Ideal S16x1x1024 .f32) (ix3 b 0 d) = a (ix2 b d) := by
  subst h
  unfold V
  after_reads_at

/-- The weights. -/
theorem weight_at (a : FVec Ideal S1024x2304 .f32) (h : m ((c.tc : Thread nD τ).loc main_arg4) = a) (d : Fin 1024) (l : Fin 2304) :
    (V m c main_v2 : FVec Ideal S1024x2304 .bf16) (ix2 d l) = a (ix2 d l) := by
  subst h
  unfold V
  after_reads_at

/-- The norm's gains. -/
theorem gain_at (a : FVec Ideal S1024 .f32) (h : m ((c.tc : Thread nD τ).loc main_arg1) = a) (d : Fin 1024) :
    (V m c main_v45 : FVec Ideal S1x1024 .f32) (ix2 0 d) = a (ix1 d) := by
  subst h
  unfold V
  after_reads_at

end Cert.Kernel2Ideal.Proj

end
-- ==== Proof.ProjTables.lean ====
/- The tables of cosines and sines the projection's call reads: the angles of a row's place in the grid. -/
module

public import proofs.«01_k».proof.Proof.ProjBlock
public import Idealize.ShloMosaic.Lib.Tactic.CleanTypes
public import Idealize.ShloMosaic.Lib.Claim
public import Idealize.ShloMosaic.Lib.StableHlo.ReadAt

@[expose] public section

set_option maxRecDepth 16384

noncomputable section

namespace Cert.Kernel2Ideal.Proj

open Cert.Kernel2Ideal Cert.Kernel2Ideal.Gen Cert.Kernel2Ideal.Value Idealize.ShloMosaic Idealize.ShloMosaic.TcCoe Idealize.SL.Sem Cert.Proj

variable (m : (ℓ : Loc nD τ sig) → Buf (Elt Ideal) ℓ) (c : Dev nD)

/-- The kernel's word for a grid row: the floor quotient by 64. -/
theorem rowWord : ∀ n : Fin 4096,
  Scalar.select
    (IntOp.andi
      (IntOp.cmpi CmpIPredicate.ne
        (if BitVec.ofNat 32 n.val = 0 then 0 else if (BitVec.ofNat 32 n.val).msb = true then -1 else 1 : BitVec 32)
        (if id (constantI S_ 32 64#32) ix0 = 0 then 0
        else if BitVec.msb (id (constantI S_ 32 64#32) ix0) = true then -1 else 1))
      (IntOp.cmpi CmpIPredicate.ne
        (IntOp.remsi ArithUnit.host (BitVec.ofNat 32 n.val) (id (constantI S_ 32 64#32) ix0)) 0#32))
    (IntOp.subi (IntOp.divsi ArithUnit.host (BitVec.ofNat 32 n.val) (id (constantI S_ 32 64#32) ix0)) 1#32)
    (IntOp.divsi ArithUnit.host (BitVec.ofNat 32 n.val) (id (constantI S_ 32 64#32) ix0)) = BitVec.ofNat 32 (n.val / 64) := by decide +kernel

/-- The kernel's word for a grid column: the remainder by 64. -/
theorem colWord : ∀ n : Fin 4096,
  Scalar.select
    (IntOp.andi
      (IntOp.cmpi CmpIPredicate.ne
        (IntOp.cmpi CmpIPredicate.slt
          (IntOp.remsi ArithUnit.host (BitVec.ofNat 32 n.val)
            (Scalar.select (IntOp.cmpi CmpIPredicate.eq (id (constantI S_ 32 64#32) ix0) 0#32) (1#32)
              (id (constantI S_ 32 64#32) ix0)))
          0#32)
        (IntOp.cmpi CmpIPredicate.slt
          (Scalar.select (IntOp.cmpi CmpIPredicate.eq (id (constantI S_ 32 64#32) ix0) 0#32) (1#32)
            (id (constantI S_ 32 64#32) ix0))
          0#32))
      (IntOp.cmpi CmpIPredicate.ne
        (IntOp.remsi ArithUnit.host (BitVec.ofNat 32 n.val)
          (Scalar.select (IntOp.cmpi CmpIPredicate.eq (id (constantI S_ 32 64#32) ix0) 0#32) (1#32)
            (id (constantI S_ 32 64#32) ix0)))
        0#32))
    (IntOp.addi
      (IntOp.remsi ArithUnit.host (BitVec.ofNat 32 n.val)
        (Scalar.select (IntOp.cmpi CmpIPredicate.eq (id (constantI S_ 32 64#32) ix0) 0#32) (1#32)
          (id (constantI S_ 32 64#32) ix0)))
      (Scalar.select (IntOp.cmpi CmpIPredicate.eq (id (constantI S_ 32 64#32) ix0) 0#32) (1#32)
        (id (constantI S_ 32 64#32) ix0)))
    (IntOp.remsi ArithUnit.host (BitVec.ofNat 32 n.val)
      (Scalar.select (IntOp.cmpi CmpIPredicate.eq (id (constantI S_ 32 64#32) ix0) 0#32) (1#32)
        (id (constantI S_ 32 64#32) ix0))) = BitVec.ofNat 32 (n.val % 64) := by decide +kernel

/-- The cosine of a row's angle. -/
theorem cos_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 72 (Proc.tc.devRef main_v28) : FVec Ideal S4096x16 .f32) (ix2 n j) = Ideal.cos (angle n l) := by
  obtain ⟨j, hj'⟩ := j
  obtain rfl : j = l.val % 16 := hj
  after_reads_at
  unfold angle
  refine congrArg Ideal.cos (congrArg₂ (· * ·) (((congrArg (FloatOps.sitofp (F := Ideal) FTy.f32) (rowWord n)).trans (int_word _ (by omega))).trans (by rw [if_pos hl])) ?_)
  rw [int_word _ (by omega)]
  pointwise [freq]

/-- The cosine of a column's angle. -/
theorem cos_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 72 (Proc.tc.devRef main_v29) : FVec Ideal S4096x16 .f32) (ix2 n j) = Ideal.cos (angle n l) := by
  obtain ⟨j, hj'⟩ := j
  obtain rfl : j = l.val % 16 := hj
  after_reads_at
  unfold angle
  refine congrArg Ideal.cos (congrArg₂ (· * ·) (((congrArg (FloatOps.sitofp (F := Ideal) FTy.f32) (colWord n)).trans (int_word _ (by omega))).trans (by rw [if_neg hl])) ?_)
  rw [int_word _ (by omega)]
  pointwise [freq]

/-- The negated sine of a row's angle. -/
theorem nsin_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 79 (Proc.tc.devRef main_v32) : FVec Ideal S4096x16 .f32) (ix2 n j) = -Ideal.sin (angle n l) := by
  obtain ⟨j, hj'⟩ := j
  obtain rfl : j = l.val % 16 := hj
  after_reads_at
  unfold angle
  refine congrArg (fun a : EReal => -a) (congrArg Ideal.sin (congrArg₂ (· * ·) (((congrArg (FloatOps.sitofp (F := Ideal) FTy.f32) (rowWord n)).trans (int_word _ (by omega))).trans (by rw [if_pos hl])) ?_))
  rw [int_word _ (by omega)]
  pointwise [freq]

/-- The sine of a row's angle. -/
theorem sin_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 79 (Proc.tc.devRef main_v33) : FVec Ideal S4096x16 .f32) (ix2 n j) = Ideal.sin (angle n l) := by
  obtain ⟨j, hj'⟩ := j
  obtain rfl : j = l.val % 16 := hj
  after_reads_at
  unfold angle
  refine congrArg Ideal.sin (congrArg₂ (· * ·) (((congrArg (FloatOps.sitofp (F := Ideal) FTy.f32) (rowWord n)).trans (int_word _ (by omega))).trans (by rw [if_pos hl])) ?_)
  rw [int_word _ (by omega)]
  pointwise [freq]

/-- The negated sine of a column's angle. -/
theorem nsin_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 79 (Proc.tc.devRef main_v35) : FVec Ideal S4096x16 .f32) (ix2 n j) = -Ideal.sin (angle n l) := by
  obtain ⟨j, hj'⟩ := j
  obtain rfl : j = l.val % 16 := hj
  after_reads_at
  unfold angle
  refine congrArg (fun a : EReal => -a) (congrArg Ideal.sin (congrArg₂ (· * ·) (((congrArg (FloatOps.sitofp (F := Ideal) FTy.f32) (colWord n)).trans (int_word _ (by omega))).trans (by rw [if_neg hl])) ?_))
  rw [int_word _ (by omega)]
  pointwise [freq]

/-- The sine of a column's angle. -/
theorem sin_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 79 (Proc.tc.devRef main_v36) : FVec Ideal S4096x16 .f32) (ix2 n j) = Ideal.sin (angle n l) := by
  obtain ⟨j, hj'⟩ := j
  obtain rfl : j = l.val % 16 := hj
  after_reads_at
  unfold angle
  refine congrArg Ideal.sin (congrArg₂ (· * ·) (((congrArg (FloatOps.sitofp (F := Ideal) FTy.f32) (colWord n)).trans (int_word _ (by omega))).trans (by rw [if_neg hl])) ?_)
  rw [int_word _ (by omega)]
  pointwise [freq]

/-- The table of cosines. -/
theorem cos_at (n : Fin 4096) (l : Fin 128) :
    (V m c main_v40 : FVec Ideal S4096x128 .f32) (ix2 n l) = Ideal.cos (angle n ⟨l.val % 64, by omega⟩) := by
  unfold V
  after_reads_at
  split
  · exact cos_row m c n ⟨l.val % 64, by omega⟩ (by dsimp only; omega) _ (by dsimp only; omega)
  · split
    · exact cos_row m c n ⟨l.val % 64, by omega⟩ (by dsimp only; omega) _ (by dsimp only; omega)
    · split
      · exact cos_col m c n ⟨l.val % 64, by omega⟩ (by dsimp only; omega) _ (by dsimp only; omega)
      · exact cos_col m c n ⟨l.val % 64, by omega⟩ (by dsimp only; omega) _ (by dsimp only; omega)

/-- The table of sines, negative in the first lane of a pair. -/
theorem sin_at (n : Fin 4096) (l : Fin 128) :
    (V m c main_v43 : FVec Ideal S4096x128 .f32) (ix2 n l)
      = if l.val % 32 < 16 then -Ideal.sin (angle n ⟨l.val % 64, by omega⟩) else Ideal.sin (angle n ⟨l.val % 64, by omega⟩) := by
  unfold V
  after_reads_at
  split
  · exact (nsin_row m c n ⟨l.val % 64, by omega⟩ (by dsimp only; omega) _ (by dsimp only; omega)).trans (if_pos (by omega)).symm
  · split
    · exact (sin_row m c n ⟨l.val % 64, by omega⟩ (by dsimp only; omega) _ (by dsimp only; omega)).trans (if_neg (by omega)).symm
    · split
      · exact (nsin_col m c n ⟨l.val % 64, by omega⟩ (by dsimp only; omega) _ (by dsimp only; omega)).trans (if_pos (by omega)).symm
      · exact (sin_col m c n ⟨l.val % 64, by omega⟩ (by dsimp only; omega) _ (by dsimp only; omega)).trans (if_neg (by omega)).symm

end Cert.Kernel2Ideal.Proj

end
-- ==== Proof.ProjFinal.lean ====
/- The four arrays the projection's call leaves: the first columns of the projection, the rotated and scaled queries,
   the rotated keys, and the values. -/
module

public import proofs.«01_k».proof.Proof.ProjArrays
public import proofs.«01_k».proof.Proof.ProjTables

@[expose] public section

set_option maxRecDepth 16384

noncomputable section

namespace Cert.Kernel2Ideal.Proj

open Cert.Kernel2Ideal Cert.Kernel2Ideal.Gen Cert.Kernel2Ideal.Value Idealize.ShloMosaic Idealize.ShloMosaic.TcCoe Idealize.SL.Sem Cert.Proj

variable (x : FVec Ideal S16x4096x1024 .f32) (g : FVec Ideal S1024 .f32) (sc sh : FVec Ideal S16x1024 .f32) (w : FVec Ideal S1024x2304 .f32)

/-- Column `col` of row `n` of batch `b` of the projection. -/
def column (b : Fin 16) (n : Fin 4096) (col : Fin 2304) : EReal :=
  proj (fun d => x (ix3 b n d)) (fun d => g (ix1 d)) (fun d => sc (ix2 b d)) (fun d => sh (ix2 b d)) (fun d => w (ix2 d col))

/-- The first 1536 columns. -/
def uArr : FVec Ideal S16x4096x1536 .f32 := fun y =>
  have hy : (y 2).val < 1536 := (y 2).isLt
  column x g sc sh w (y 0) (y 1) ⟨(y 2).val, by omega⟩

/-- The queries: 512 columns, heads of 64 lanes side by side, rotated and scaled by an eighth. -/
def qArr : FVec Ideal S16x4096x512 .bf16 := fun y =>
  have hy : (y 2).val < 512 := (y 2).isLt
  rotated (y 1) (fun e => column x g sc sh w (y 0) (y 1) ⟨1536 + ((y 2).val / 64 * 64 + e.val), by omega⟩) ⟨(y 2).val % 64, by omega⟩
    * Ideal.ofBits .f32 0x3E000000#32

/-- The keys: 128 columns, two heads, rotated. -/
def kArr : FVec Ideal S16x4096x128 .bf16 := fun y =>
  have hy : (y 2).val < 128 := (y 2).isLt
  rotated (y 1) (fun e => column x g sc sh w (y 0) (y 1) ⟨2048 + ((y 2).val / 64 * 64 + e.val), by omega⟩) ⟨(y 2).val % 64, by omega⟩

/-- The values: the last 128 columns. -/
def vArr : FVec Ideal S16x4096x128 .bf16 := fun y =>
  have hy : (y 2).val < 128 := (y 2).isLt
  column x g sc sh w (y 0) (y 1) ⟨2176 + (y 2).val, by omega⟩

/-- The kernel's turn of 128 lanes by its tables is the rotation in each head of 64 lanes. -/
theorem turn_rotated (n : Fin 4096) (f c s : Fin 128 → EReal) (l : Fin 128)
    (hc : c l = Ideal.cos (angle n ⟨l.val % 64, by omega⟩))
    (hs : s l = if l.val % 32 < 16 then -Ideal.sin (angle n ⟨l.val % 64, by omega⟩) else Ideal.sin (angle n ⟨l.val % 64, by omega⟩)) :
    turn f c s l = rotated n (fun e => f ⟨l.val / 64 * 64 + e.val, by omega⟩) ⟨l.val % 64, by omega⟩ := by
  unfold turn rotated
  rw [hc, hs]
  have e0 : (⟨l.val / 64 * 64 + l.val % 64, by omega⟩ : Fin 128) = l := Fin.ext (by dsimp only; omega)
  by_cases h : l.val % 32 < 16
  · rw [if_pos h, if_pos h, dif_pos (show l.val % 64 % 32 < 16 by omega)]
    dsimp only
    rw [e0, mul_neg, ← sub_eq_add_neg]
    congr 3
    refine Fin.ext ?_
    dsimp only
    omega
  · rw [if_neg h, if_neg h, dif_neg (show ¬ l.val % 64 % 32 < 16 by omega)]
    dsimp only
    rw [e0]
    congr 3
    refine Fin.ext ?_
    dsimp only
    omega

/-- Where the windows stand at a grid point: batch `t / 8`, rows from `512 (t % 8)`. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![0, 0]
    ∧ win0_5.index t = ![t.val % 8, 0] ∧ win0_6.index t = ![t.val % 8, 0]
    ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0] ∧ t.val < 128 :=
  (by decide +kernel : ∀ t : Fin grid0.N, _)

/-! The blocks of a grid point, of any array. -/

theorem x_read (A : FVec Ideal S16x4096x1024 .f32) (t : Fin cfg0.N) (ht : t.val < 128) (r : Fin 512) (d : Fin 1024) :
    (((cfg0.win 0).blk t).view.read (Elt Ideal) A : FVec Ideal S1x512x1024 .f32) (ix3 0 r d)
      = A (ix3 ⟨t.val / 8, by omega⟩ ⟨t.val % 8 * 512 + r.val, by omega⟩ d) := by
  blk_ext [idx t]

theorem g_read (A : FVec Ideal S1x1024 .f32) (t : Fin cfg0.N) (d : Fin 1024) :
    (((cfg0.win 1).blk t).view.read (Elt Ideal) A : FVec Ideal S1x1024 .f32) (ix2 0 d) = A (ix2 0 d) := by
  blk_ext [idx t]

theorem sc_read (A : FVec Ideal S16x1x1024 .f32) (t : Fin cfg0.N) (ht : t.val < 128) (d : Fin 1024) :
    (((cfg0.win 2).blk t).view.read (Elt Ideal) A : FVec Ideal S1x1x1024 .f32) (ix3 0 0 d) = A (ix3 ⟨t.val / 8, by omega⟩ 0 d) := by
  blk_ext [idx t]

theorem sh_read (A : FVec Ideal S16x1x1024 .f32) (t : Fin cfg0.N) (ht : t.val < 128) (d : Fin 1024) :
    (((cfg0.win 3).blk t).view.read (Elt Ideal) A : FVec Ideal S1x1x1024 .f32) (ix3 0 0 d) = A (ix3 ⟨t.val / 8, by omega⟩ 0 d) := by
  blk_ext [idx t]

theorem w_read (A : FVec Ideal S1024x2304 .bf16) (t : Fin cfg0.N) (d : Fin 1024) (l : Fin 2304) :
    (((cfg0.win 4).blk t).view.read (Elt Ideal) A : FVec Ideal S1024x2304 .bf16) (ix2 d l) = A (ix2 d l) := by
  blk_ext [idx t]

theorem c_read (A : FVec Ideal S4096x128 .f32) (t : Fin cfg0.N) (ht : t.val < 128) (r : Fin 512) (l : Fin 128) :
    (((cfg0.win 5).blk t).view.read (Elt Ideal) A : FVec Ideal S512x128 .f32) (ix2 r l) = A (ix2 ⟨t.val % 8 * 512 + r.val, by omega⟩ l) := by
  blk_ext [idx t]

theorem s_read (A : FVec Ideal S4096x128 .f32) (t : Fin cfg0.N) (ht : t.val < 128) (r : Fin 512) (l : Fin 128) :
    (((cfg0.win 6).blk t).view.read (Elt Ideal) A : FVec Ideal S512x128 .f32) (ix2 r l) = A (ix2 ⟨t.val % 8 * 512 + r.val, by omega⟩ l) := by
  blk_ext [idx t]

section Blocks
variable (z0 : FVec Ideal S1x512x1024 .f32) (z1 : FVec Ideal S1x1024 .f32) (z2 z3 : FVec Ideal S1x1x1024 .f32)
  (zw : FVec Ideal S1024x2304 .bf16) (cs sn : FVec Ideal S512x128 .f32) (b : Fin 16) (n : Fin 4096) (r : Fin 512)

/-- A block's column is the array's, when its reads are. -/
theorem seg_column (h0 : ∀ d, z0 (ix3 0 r d) = x (ix3 b n d)) (h1 : ∀ d, z1 (ix2 0 d) = g (ix1 d)) (h2 : ∀ d, z2 (ix3 0 0 d) = sc (ix2 b d))
    (h3 : ∀ d, z3 (ix3 0 0 d) = sh (ix2 b d)) (h4 : ∀ d l, zw (ix2 d l) = w (ix2 d l)) (col : Fin 2304) :
    seg z0 z1 z2 z3 zw r col = column x g sc sh w b n col := by
  unfold seg column
  rw [funext h0, funext h1, funext h2, funext h3, funext fun d => h4 d col]

theorem qBlk_eq (hcol : ∀ col, seg z0 z1 z2 z3 zw r col = column x g sc sh w b n col)
    (hc : ∀ l : Fin 128, cs (ix2 r l) = Ideal.cos (angle n ⟨l.val % 64, by omega⟩))
    (hs : ∀ l : Fin 128, sn (ix2 r l) = if l.val % 32 < 16 then -Ideal.sin (angle n ⟨l.val % 64, by omega⟩) else Ideal.sin (angle n ⟨l.val % 64, by omega⟩))
    (l : Fin 512) : qBlk z0 z1 z2 z3 zw cs sn r l = qArr x g sc sh w (ix3 b n l) := by
  unfold qBlk
  rw [turn_rotated n _ _ _ _ (hc _) (hs _)]
  simp only [hcol]
  show rotated n (fun e => column x g sc sh w b n ⟨1536 + (l.val / 128 * 128 + (l.val % 128 / 64 * 64 + e.val)), _⟩) ⟨l.val % 128 % 64, _⟩ * _
    = rotated n (fun e => column x g sc sh w b n ⟨1536 + (l.val / 64 * 64 + e.val), _⟩) ⟨l.val % 64, _⟩ * _
  congr 2
  · funext e
    congr 1
    refine Fin.ext ?_
    dsimp only
    omega
  · refine Fin.ext ?_
    dsimp only
    omega

theorem kBlk_eq (hcol : ∀ col, seg z0 z1 z2 z3 zw r col = column x g sc sh w b n col)
    (hc : ∀ l : Fin 128, cs (ix2 r l) = Ideal.cos (angle n ⟨l.val % 64, by omega⟩))
    (hs : ∀ l : Fin 128, sn (ix2 r l) = if l.val % 32 < 16 then -Ideal.sin (angle n ⟨l.val % 64, by omega⟩) else Ideal.sin (angle n ⟨l.val % 64, by omega⟩))
    (l : Fin 128) : kBlk z0 z1 z2 z3 zw cs sn r l = kArr x g sc sh w (ix3 b n l) := by
  unfold kBlk
  rw [turn_rotated n _ _ _ _ (hc _) (hs _)]
  simp only [hcol]
  rfl

end Blocks

variable (m : (ℓ : Loc nD τ sig) → Buf (Elt Ideal) ℓ) (c : Dev nD)
variable (h0 : m ((c.tc : Thread nD τ).loc main_arg0) = x) (h1 : m ((c.tc : Thread nD τ).loc main_arg1) = g)
  (h2 : m ((c.tc : Thread nD τ).loc main_arg2) = sc) (h3 : m ((c.tc : Thread nD τ).loc main_arg3) = sh)
  (h4 : m ((c.tc : Thread nD τ).loc main_arg4) = w)

include h0 h1 h2 h3 h4 in
/-- The columns of a grid point's rows. -/
theorem seg_at (t : Fin cfg0.N) (ht : t.val < 128) (r : Fin 512) (col : Fin 2304) :
    seg (iblk m c 0 t) (iblk m c 1 t) (iblk m c 2 t) (iblk m c 3 t) (iblk m c 4 t) r col
      = column x g sc sh w ⟨t.val / 8, by omega⟩ ⟨t.val % 8 * 512 + r.val, by omega⟩ col :=
  seg_column x g sc sh w _ _ _ _ _ _ _ _
    (fun d => (x_read (V m c main_arg0) t ht r d).trans (congrFun ((V_main_arg0 m c).trans h0) _))
    (fun d => (g_read (V m c main_v45) t d).trans (gain_at m c g h1 d))
    (fun d => (sc_read (V m c main_v0) t ht d).trans (scale_at m c sc h2 _ d))
    (fun d => (sh_read (V m c main_v1) t ht d).trans (shift_at m c sh h3 _ d))
    (fun d l => (w_read (V m c main_v2) t d l).trans (weight_at m c w h4 d l)) col

include h0 h1 h2 h3 h4 in
/-- The first columns after the run. -/
theorem final_u : (dats m 0 c).arrAt 9 cfg0.N = uArr x g sc sh w := by
  refine (dats m 0 c).arrAt_eq_of_covers 9 _ (by decide +kernel) fun t hf y => ?_
  blk_simp
  rw [after0_9]
  have ht : t.val < 128 := (idx t).2.2.2.2.2.2.2.2.2.2.2
  idx_vars y
  refine (out9 ..).trans ?_
  refine (seg_at x g sc sh w m c h0 h1 h2 h3 h4 t ht y1 ⟨y2.val, by omega⟩).trans ?_
  refine (rfl : _ = uArr x g sc sh w (ix3 ⟨t.val / 8, by omega⟩ ⟨t.val % 8 * 512 + y1.val, by omega⟩ y2)).trans ?_
  blk_ext [idx t]

include h0 h1 h2 h3 h4 in
/-- The values after the run. -/
theorem final_v : (dats m 0 c).arrAt 12 cfg0.N = vArr x g sc sh w := by
  refine (dats m 0 c).arrAt_eq_of_covers 12 _ (by decide +kernel) fun t hf y => ?_
  blk_simp
  rw [after0_12]
  have ht : t.val < 128 := (idx t).2.2.2.2.2.2.2.2.2.2.2
  idx_vars y
  refine (out12 ..).trans ?_
  refine (seg_at x g sc sh w m c h0 h1 h2 h3 h4 t ht y1 ⟨2176 + y2.val, by omega⟩).trans ?_
  refine (rfl : _ = vArr x g sc sh w (ix3 ⟨t.val / 8, by omega⟩ ⟨t.val % 8 * 512 + y1.val, by omega⟩ y2)).trans ?_
  blk_ext [idx t]

include h0 h1 h2 h3 h4 in
/-- The queries after the run. -/
theorem final_q : (dats m 0 c).arrAt 10 cfg0.N = qArr x g sc sh w := by
  refine (dats m 0 c).arrAt_eq_of_covers 10 _ (by decide +kernel) fun t hf y => ?_
  blk_simp
  rw [after0_10]
  have ht : t.val < 128 := (idx t).2.2.2.2.2.2.2.2.2.2.2
  idx_vars y
  refine (out10 ..).trans ?_
  refine (qBlk_eq x g sc sh w _ _ _ _ _ _ _ ⟨t.val / 8, by omega⟩ ⟨t.val % 8 * 512 + y1.val, by omega⟩ y1
    (fun col => seg_at x g sc sh w m c h0 h1 h2 h3 h4 t ht y1 col)
    (fun l => (c_read (V m c main_v40) t ht y1 l).trans (cos_at m c _ l))
    (fun l => (s_read (V m c main_v43) t ht y1 l).trans (sin_at m c _ l)) y2).trans ?_
  blk_ext [idx t]

include h0 h1 h2 h3 h4 in
/-- The keys after the run. -/
theorem final_k : (dats m 0 c).arrAt 11 cfg0.N = kArr x g sc sh w := by
  refine (dats m 0 c).arrAt_eq_of_covers 11 _ (by decide +kernel) fun t hf y => ?_
  blk_simp
  rw [after0_11]
  have ht : t.val < 128 := (idx t).2.2.2.2.2.2.2.2.2.2.2
  idx_vars y
  refine (out11 ..).trans ?_
  refine (kBlk_eq x g sc sh w _ _ _ _ _ _ _ ⟨t.val / 8, by omega⟩ ⟨t.val % 8 * 512 + y1.val, by omega⟩ y1
    (fun col => seg_at x g sc sh w m c h0 h1 h2 h3 h4 t ht y1 col)
    (fun l => (c_read (V m c main_v40) t ht y1 l).trans (cos_at m c _ l))
    (fun l => (s_read (V m c main_v43) t ht y1 l).trans (sin_at m c _ l)) y2).trans ?_
  blk_ext [idx t]

end Cert.Kernel2Ideal.Proj

end
-- ==== Proof.ProjStages.lean ====
/- The reference of the projection as its stages: the projection of the modulated rows, the angles, and the rotation of
   heads; each read at an index. -/
module

public import proofs.«01_k».proof.Proof.Gen.Reference2Ideal.Run
public import proofs.«01_k».proof.Proof.ProjMath
public import Idealize.ShloMosaic.Lib.Pointwise
public import Idealize.ShloMosaic.Lib.Tactic.CleanTypes

@[expose] public section

set_option maxRecDepth 16384

noncomputable section

namespace Cert.Reference2Ideal.Proj

open Cert.Reference2Ideal Cert.Reference2Ideal.Gen Cert.Reference2Ideal.Value Idealize.ShloMosaic Idealize.ShloMosaic.TcCoe Idealize.SL.Sem Cert.Proj

/-- The projection of the normalised, modulated rows. -/
def projection (x : FVec Ideal S16x4096x1024 .f32) (g : FVec Ideal S1024 .f32) (sc sh : FVec Ideal S16x1024 .f32) (w : FVec Ideal S1024x2304 .f32) :
    FVec Ideal S16x4096x2304 .f32 :=
  Host.dotGeneral dot_S16x4096x1024_S1024x2304_S16x4096x2304_2_0_01_1_n_n none
    (addf
      (mulf
        (mulf
          (mulf x
            (broadcastInDim S16x4096x1024 ![0, 1, 2] bcast_S16x4096x1_S16x4096x1024_0_1_2
              (Host.rsqrt
                (addf
                  (Host.divf
                    (broadcastInDim S16x4096x1 ![0, 1] bcast_S16x4096_S16x4096x1_0_1
                      (Host.reduceAdd (mulf x x) (constant S_ .f32 0x00000000#32) reducesTo_S16x4096x1024_S16x4096_d2 h_S_))
                    (broadcastInDim S16x4096x1 ![] bcast_S_S16x4096x1 (constant S_ .f32 0x44800000#32)))
                  (broadcastInDim S16x4096x1 ![] bcast_S_S16x4096x1 (constant S_ .f32 0x358637BD#32))))))
          (broadcastInDim S16x4096x1024 ![0, 1, 2] bcast_S1x1x1024_S16x4096x1024_0_1_2 (broadcastInDim S1x1x1024 ![2] bcast_S1024_S1x1x1024_2 g)))
        (broadcastInDim S16x4096x1024 ![0, 1, 2] bcast_S16x1x1024_S16x4096x1024_0_1_2
          (addf (broadcastInDim S16x1x1024 ![] bcast_S_S16x1x1024 (constant S_ .f32 0x3F800000#32))
            (broadcastInDim S16x1x1024 ![0, 2] bcast_S16x1024_S16x1x1024_0_2 sc))))
      (broadcastInDim S16x4096x1024 ![0, 1, 2] bcast_S16x1x1024_S16x4096x1024_0_1_2
        (broadcastInDim S16x1x1024 ![0, 2] bcast_S16x1024_S16x1x1024_0_2 sh)))
    w

/-- The frequencies of the pairs of lanes. -/
def freqs : FVec Ideal S16 .f32 :=
  Host.powf (broadcastInDim S16 ![] bcast_S_S16 (constant S_ .f32 0x461C4000#32))
    (Host.divf
      (Host.negf
        (addf (broadcastInDim S16 ![] bcast_S_S16 (constant S_ .f32 0x00000000#32))
          (mulf (broadcastInDim S16 ![] bcast_S_S16 (constant S_ .f32 0x40000000#32)) (sitofp .f32 (iotaInDim S16 32 0)))))
      (broadcastInDim S16 ![] bcast_S_S16 (constant S_ .f32 0x42000000#32)))

/-- The angles of places: a place's coordinate times the frequencies. -/
def angles (p : IVec S64x64 32) : FVec Ideal S4096x16 .f32 :=
  mulf
    (broadcastInDim S4096x16 ![0, 1] bcast_S4096x1_S4096x16_0_1
      (broadcastInDim S4096x1 ![0] bcast_S4096_S4096x1_0 (sitofp .f32 (shapeCast _ p shapeCasts_S64x64_S4096))))
    (broadcastInDim S4096x16 ![0, 1] bcast_S1x16_S4096x16_0_1 (broadcastInDim S1x16 ![1] bcast_S16_S1x16_1 freqs))

/-- The grid's rows, and its columns. -/
def rows : IVec S64x64 32 := broadcastInDim S64x64 ![0] bcast_S64_S64x64_0 (iotaInDim S64 32 0)
def cols : IVec S64x64 32 := broadcastInDim S64x64 ![1] bcast_S64_S64x64_1 (iotaInDim S64 32 0)

/-- A half of every one of 8 heads, its two halves turned by the angles. -/
def turned8 (h : FVec Ideal S16x4096x8x32 .f32) (a : FVec Ideal S4096x16 .f32) : FVec Ideal S16x4096x8x32 .f32 :=
  concatenate S16x4096x8x32 3
    [⟨S16x4096x8x16,
      (subf
        (mulf (extractStridedSlice S16x4096x8x16 ![0, 0, 0, 0] h slices_S16x4096x8x32_S16x4096x8x16_0_0_0_0)
          (broadcastInDim S16x4096x8x16 ![0, 1, 2, 3] bcast_S1x4096x1x16_S16x4096x8x16_0_1_2_3
            (broadcastInDim S1x4096x1x16 ![1, 3] bcast_S4096x16_S1x4096x1x16_1_3 (Host.cos a))))
        (mulf (extractStridedSlice S16x4096x8x16 ![0, 0, 0, 16] h slices_S16x4096x8x32_S16x4096x8x16_0_0_0_16)
          (broadcastInDim S16x4096x8x16 ![0, 1, 2, 3] bcast_S1x4096x1x16_S16x4096x8x16_0_1_2_3
            (broadcastInDim S1x4096x1x16 ![1, 3] bcast_S4096x16_S1x4096x1x16_1_3 (Host.sin a)))))⟩,
     ⟨S16x4096x8x16,
      (addf
        (mulf (extractStridedSlice S16x4096x8x16 ![0, 0, 0, 16] h slices_S16x4096x8x32_S16x4096x8x16_0_0_0_16)
          (broadcastInDim S16x4096x8x16 ![0, 1, 2, 3] bcast_S1x4096x1x16_S16x4096x8x16_0_1_2_3
            (broadcastInDim S1x4096x1x16 ![1, 3] bcast_S4096x16_S1x4096x1x16_1_3 (Host.cos a))))
        (mulf (extractStridedSlice S16x4096x8x16 ![0, 0, 0, 0] h slices_S16x4096x8x32_S16x4096x8x16_0_0_0_0)
          (broadcastInDim S16x4096x8x16 ![0, 1, 2, 3] bcast_S1x4096x1x16_S16x4096x8x16_0_1_2_3
            (broadcastInDim S1x4096x1x16 ![1, 3] bcast_S4096x16_S1x4096x1x16_1_3 (Host.sin a)))))⟩]
    concatenates_S16x4096x8x16_S16x4096x8x16_S16x4096x8x32_d3

/-- 8 heads of the projection, from column 1536. -/
def heads8 (p : FVec Ideal S16x4096x2304 .f32) : FVec Ideal S16x4096x8x64 .f32 :=
  shapeCast _ (extractStridedSlice S16x4096x512 ![0, 0, 1536] p slices_S16x4096x2304_S16x4096x512_0_0_1536) shapeCasts_S16x4096x512_S16x4096x8x64

/-- 8 heads rotated: the first half by the row's angles, the second by the column's. -/
def rotated8 (h : FVec Ideal S16x4096x8x64 .f32) (ar ac : FVec Ideal S4096x16 .f32) : FVec Ideal S16x4096x8x64 .f32 :=
  concatenate S16x4096x8x64 3
    [⟨S16x4096x8x32, turned8 (extractStridedSlice S16x4096x8x32 ![0, 0, 0, 0] h slices_S16x4096x8x64_S16x4096x8x32_0_0_0_0) ar⟩,
     ⟨S16x4096x8x32, turned8 (extractStridedSlice S16x4096x8x32 ![0, 0, 0, 32] h slices_S16x4096x8x64_S16x4096x8x32_0_0_0_32) ac⟩]
    concatenates_S16x4096x8x32_S16x4096x8x32_S16x4096x8x64_d3

/-- A half of every one of 2 heads, its two halves turned by the angles. -/
def turned2 (h : FVec Ideal S16x4096x2x32 .f32) (a : FVec Ideal S4096x16 .f32) : FVec Ideal S16x4096x2x32 .f32 :=
  concatenate S16x4096x2x32 3
    [⟨S16x4096x2x16,
      (subf
        (mulf (extractStridedSlice S16x4096x2x16 ![0, 0, 0, 0] h slices_S16x4096x2x32_S16x4096x2x16_0_0_0_0)
          (broadcastInDim S16x4096x2x16 ![0, 1, 2, 3] bcast_S1x4096x1x16_S16x4096x2x16_0_1_2_3
            (broadcastInDim S1x4096x1x16 ![1, 3] bcast_S4096x16_S1x4096x1x16_1_3 (Host.cos a))))
        (mulf (extractStridedSlice S16x4096x2x16 ![0, 0, 0, 16] h slices_S16x4096x2x32_S16x4096x2x16_0_0_0_16)
          (broadcastInDim S16x4096x2x16 ![0, 1, 2, 3] bcast_S1x4096x1x16_S16x4096x2x16_0_1_2_3
            (broadcastInDim S1x4096x1x16 ![1, 3] bcast_S4096x16_S1x4096x1x16_1_3 (Host.sin a)))))⟩,
     ⟨S16x4096x2x16,
      (addf
        (mulf (extractStridedSlice S16x4096x2x16 ![0, 0, 0, 16] h slices_S16x4096x2x32_S16x4096x2x16_0_0_0_16)
          (broadcastInDim S16x4096x2x16 ![0, 1, 2, 3] bcast_S1x4096x1x16_S16x4096x2x16_0_1_2_3
            (broadcastInDim S1x4096x1x16 ![1, 3] bcast_S4096x16_S1x4096x1x16_1_3 (Host.cos a))))
        (mulf (extractStridedSlice S16x4096x2x16 ![0, 0, 0, 0] h slices_S16x4096x2x32_S16x4096x2x16_0_0_0_0)
          (broadcastInDim S16x4096x2x16 ![0, 1, 2, 3] bcast_S1x4096x1x16_S16x4096x2x16_0_1_2_3
            (broadcastInDim S1x4096x1x16 ![1, 3] bcast_S4096x16_S1x4096x1x16_1_3 (Host.sin a)))))⟩]
    concatenates_S16x4096x2x16_S16x4096x2x16_S16x4096x2x32_d3

/-- 2 heads of the projection, from column 2048. -/
def heads2 (p : FVec Ideal S16x4096x2304 .f32) : FVec Ideal S16x4096x2x64 .f32 :=
  shapeCast _ (extractStridedSlice S16x4096x128 ![0, 0, 2048] p slices_S16x4096x2304_S16x4096x128_0_0_2048) shapeCasts_S16x4096x128_S16x4096x2x64

/-- 2 heads rotated: the first half by the row's angles, the second by the column's. -/
def rotated2 (h : FVec Ideal S16x4096x2x64 .f32) (ar ac : FVec Ideal S4096x16 .f32) : FVec Ideal S16x4096x2x64 .f32 :=
  concatenate S16x4096x2x64 3
    [⟨S16x4096x2x32, turned2 (extractStridedSlice S16x4096x2x32 ![0, 0, 0, 0] h slices_S16x4096x2x64_S16x4096x2x32_0_0_0_0) ar⟩,
     ⟨S16x4096x2x32, turned2 (extractStridedSlice S16x4096x2x32 ![0, 0, 0, 32] h slices_S16x4096x2x64_S16x4096x2x32_0_0_0_32) ac⟩]
    concatenates_S16x4096x2x32_S16x4096x2x32_S16x4096x2x64_d3

/-- The queries: the rotated heads scaled, side by side. -/
def queries (p : FVec Ideal S16x4096x2304 .f32) : FVec Ideal S16x4096x512 .bf16 :=
  truncf .bf16 (shapeCast _ (mulf (rotated8 (heads8 p) (angles rows) (angles cols))
    (broadcastInDim S16x4096x8x64 ![] bcast_S_S16x4096x8x64 (constant S_ .f32 0x3E000000#32))) shapeCasts_S16x4096x8x64_S16x4096x512) bitsLt_bf16_f32

/-- The keys: the rotated heads side by side. -/
def keys (p : FVec Ideal S16x4096x2304 .f32) : FVec Ideal S16x4096x128 .bf16 :=
  truncf .bf16 (shapeCast _ (rotated2 (heads2 p) (angles rows) (angles cols)) shapeCasts_S16x4096x2x64_S16x4096x128) bitsLt_bf16_f32

/-- The first 1536 columns. -/
def firsts (p : FVec Ideal S16x4096x2304 .f32) : FVec Ideal S16x4096x1536 .f32 :=
  extractStridedSlice S16x4096x1536 ![0, 0, 0] p slices_S16x4096x2304_S16x4096x1536_0_0_0

/-- The values: the last 128 columns. -/
def lasts (p : FVec Ideal S16x4096x2304 .f32) : FVec Ideal S16x4096x128 .bf16 :=
  truncf .bf16 (extractStridedSlice S16x4096x128 ![0, 0, 2176] p slices_S16x4096x2304_S16x4096x128_0_0_2176) bitsLt_bf16_f32

section Result
variable (m : (ℓ : Loc nD τ sig) → Buf (Elt Ideal) ℓ) (c : Dev nD) (x : FVec Ideal S16x4096x1024 .f32) (g : FVec Ideal S1024 .f32)
  (sc sh : FVec Ideal S16x1024 .f32) (w : FVec Ideal S1024x2304 .f32)
  (h0 : m ((c.tc : Thread nD τ).loc main_arg0) = x) (h1 : m ((c.tc : Thread nD τ).loc main_arg1) = g)
  (h2 : m ((c.tc : Thread nD τ).loc main_arg2) = sc) (h3 : m ((c.tc : Thread nD τ).loc main_arg3) = sh)
  (h4 : m ((c.tc : Thread nD τ).loc main_arg4) = w)
include h0 h1 h2 h3 h4

/-- The reference's second result. -/
theorem result_q : res_out1 m c = queries (projection x g sc sh w) := by
  subst h0 h1 h2 h3 h4
  rfl

/-- The reference's third result. -/
theorem result_k : res_out2 m c = keys (projection x g sc sh w) := by
  subst h0 h1 h2 h3 h4
  rfl

end Result

theorem projection_at (x : FVec Ideal S16x4096x1024 .f32) (g : FVec Ideal S1024 .f32) (sc sh : FVec Ideal S16x1024 .f32) (w : FVec Ideal S1024x2304 .f32)
    (b : Fin 16) (n : Fin 4096) (col : Fin 2304) :
    projection x g sc sh w (ix3 b n col)
      = proj (fun d => x (ix3 b n d)) (fun d => g (ix1 d)) (fun d => sc (ix2 b d)) (fun d => sh (ix2 b d)) (fun d => w (ix2 d col)) := by
  pointwise [projection, proj, modulated]

theorem freqs_at (j : Fin 16) : freqs (ix1 j) = freq j := by
  unfold freqs freq
  pointwise []
  rw [int_word _ (by omega)]

theorem angles_at (p : IVec S64x64 32) (n : Fin 4096) (j : Fin 16) :
    angles p (ix2 n j) = FloatOps.sitofp .f32 (p (ix2 ⟨n.val / 64, by omega⟩ ⟨n.val % 64, by omega⟩)) * freq j := by
  rw [← freqs_at]
  unfold angles
  generalize freqs = f
  pointwise []

theorem rows_at (n : Fin 4096) (j : Fin 16) : angles rows (ix2 n j) = (((n.val / 64 : ℕ) : ℝ) : EReal) * freq j := by
  rw [angles_at]
  refine congrArg (· * freq j) ?_
  pointwise [rows]
  exact int_word _ (by omega)

theorem cols_at (n : Fin 4096) (j : Fin 16) : angles cols (ix2 n j) = (((n.val % 64 : ℕ) : ℝ) : EReal) * freq j := by
  rw [angles_at]
  refine congrArg (· * freq j) ?_
  pointwise [cols]
  exact int_word _ (by omega)

theorem turned8_at (h : FVec Ideal S16x4096x8x32 .f32) (a : FVec Ideal S4096x16 .f32) (b : Fin 16) (n : Fin 4096) (k : Fin 8) (l : Fin 32) :
    turned8 h a (ix4 b n k l)
      = if hl : l.val < 16 then h (ix4 b n k l) * Ideal.cos (a (ix2 n ⟨l.val, hl⟩)) - h (ix4 b n k ⟨16 + l.val, by omega⟩) * Ideal.sin (a (ix2 n ⟨l.val, hl⟩))
        else h (ix4 b n k ⟨16 + (l.val - 16), by omega⟩) * Ideal.cos (a (ix2 n ⟨l.val - 16, by omega⟩)) + h (ix4 b n k ⟨l.val - 16, by omega⟩) * Ideal.sin (a (ix2 n ⟨l.val - 16, by omega⟩)) := by
  pointwise [turned8]

theorem heads8_at (p : FVec Ideal S16x4096x2304 .f32) (b : Fin 16) (n : Fin 4096) (k : Fin 8) (e : Fin 64) :
    heads8 p (ix4 b n k e) = p (ix3 b n ⟨1536 + (k.val * 64 + e.val), by omega⟩) := by
  pointwise [heads8]

theorem rotated8_at (h : FVec Ideal S16x4096x8x64 .f32) (b : Fin 16) (n : Fin 4096) (k : Fin 8) (l : Fin 64) :
    rotated8 h (angles rows) (angles cols) (ix4 b n k l) = rotated n (fun e => h (ix4 b n k e)) l := by
  unfold rotated8
  have er := rows_at n
  have ec := cols_at n
  generalize angles rows = ar at er ⊢
  generalize angles cols = ac at ec ⊢
  pointwise [turned8_at]
  exact rotated_cases n (fun e => h (ix4 b n k e)) (fun j => ar (ix2 n j)) (fun j => ac (ix2 n j)) er ec l

theorem turned2_at (h : FVec Ideal S16x4096x2x32 .f32) (a : FVec Ideal S4096x16 .f32) (b : Fin 16) (n : Fin 4096) (k : Fin 2) (l : Fin 32) :
    turned2 h a (ix4 b n k l)
      = if hl : l.val < 16 then h (ix4 b n k l) * Ideal.cos (a (ix2 n ⟨l.val, hl⟩)) - h (ix4 b n k ⟨16 + l.val, by omega⟩) * Ideal.sin (a (ix2 n ⟨l.val, hl⟩))
        else h (ix4 b n k ⟨16 + (l.val - 16), by omega⟩) * Ideal.cos (a (ix2 n ⟨l.val - 16, by omega⟩)) + h (ix4 b n k ⟨l.val - 16, by omega⟩) * Ideal.sin (a (ix2 n ⟨l.val - 16, by omega⟩)) := by
  pointwise [turned2]

theorem heads2_at (p : FVec Ideal S16x4096x2304 .f32) (b : Fin 16) (n : Fin 4096) (k : Fin 2) (e : Fin 64) :
    heads2 p (ix4 b n k e) = p (ix3 b n ⟨2048 + (k.val * 64 + e.val), by omega⟩) := by
  pointwise [heads2]

theorem rotated2_at (h : FVec Ideal S16x4096x2x64 .f32) (b : Fin 16) (n : Fin 4096) (k : Fin 2) (l : Fin 64) :
    rotated2 h (angles rows) (angles cols) (ix4 b n k l) = rotated n (fun e => h (ix4 b n k e)) l := by
  unfold rotated2
  have er := rows_at n
  have ec := cols_at n
  generalize angles rows = ar at er ⊢
  generalize angles cols = ac at ec ⊢
  pointwise [turned2_at]
  exact rotated_cases n (fun e => h (ix4 b n k e)) (fun j => ar (ix2 n j)) (fun j => ac (ix2 n j)) er ec l

theorem queries_at (p : FVec Ideal S16x4096x2304 .f32) (b : Fin 16) (n : Fin 4096) (l : Fin 512) :
    queries p (ix3 b n l)
      = rotated n (fun e => p (ix3 b n ⟨1536 + (l.val / 64 * 64 + e.val), by omega⟩)) ⟨l.val % 64, by omega⟩ * Ideal.ofBits .f32 0x3E000000#32 := by
  pointwise [queries, rotated8_at, heads8_at]

theorem keys_at (p : FVec Ideal S16x4096x2304 .f32) (b : Fin 16) (n : Fin 4096) (l : Fin 128) :
    keys p (ix3 b n l) = rotated n (fun e => p (ix3 b n ⟨2048 + (l.val / 64 * 64 + e.val), by omega⟩)) ⟨l.val % 64, by omega⟩ := by
  pointwise [keys, rotated2_at, heads2_at]

theorem firsts_at (p : FVec Ideal S16x4096x2304 .f32) (b : Fin 16) (n : Fin 4096) (l : Fin 1536) :
    firsts p (ix3 b n l) = p (ix3 b n ⟨l.val, by omega⟩) := by
  pointwise [firsts]

theorem lasts_at (p : FVec Ideal S16x4096x2304 .f32) (b : Fin 16) (n : Fin 4096) (l : Fin 128) :
    lasts p (ix3 b n l) = p (ix3 b n ⟨2176 + l.val, by omega⟩) := by
  pointwise [lasts]

end Cert.Reference2Ideal.Proj

end
-- ==== Proof.ProjEquation.lean ====
/- The equation of the input projection: the four arrays of the kernel are the reference's four results. -/
module

public import proofs.«01_k».proof.Proof.ProjFinal
public import proofs.«01_k».proof.Proof.ProjStages

@[expose] public section

noncomputable section

namespace Cert.Proj

open Cert.Kernel2Ideal Cert.Kernel2Ideal.Proj Cert.Reference2Ideal.Proj Idealize.ShloMosaic

variable (x : FVec Ideal S16x4096x1024 .f32) (g : FVec Ideal S1024 .f32) (sc sh : FVec Ideal S16x1024 .f32) (w : FVec Ideal S1024x2304 .f32)

/-- The columns agree. -/
theorem column_eq (b : Fin 16) (n : Fin 4096) (col : Fin 2304) :
    projection x g sc sh w (ix3 b n col) = column x g sc sh w b n col :=
  projection_at x g sc sh w b n col

/-- The first columns agree. -/
theorem u_eq : firsts (projection x g sc sh w) = uArr x g sc sh w := by
  funext y
  idx_vars y
  exact (firsts_at _ y0 y1 y2).trans (column_eq x g sc sh w _ _ _)

/-- The queries agree. -/
theorem q_eq : queries (projection x g sc sh w) = qArr x g sc sh w := by
  funext y
  idx_vars y
  refine (queries_at _ y0 y1 y2).trans ?_
  simp only [column_eq]
  rfl

/-- The keys agree. -/
theorem k_eq : keys (projection x g sc sh w) = kArr x g sc sh w := by
  funext y
  idx_vars y
  refine (keys_at _ y0 y1 y2).trans ?_
  simp only [column_eq]
  rfl

/-- The values agree. -/
theorem v_eq : lasts (projection x g sc sh w) = vArr x g sc sh w := by
  funext y
  idx_vars y
  exact (lasts_at _ y0 y1 y2).trans (column_eq x g sc sh w _ _ _)

end Cert.Proj

end
-- ==== Proof.HeadNorm.lean ====
/- The norm of a head's lanes: by sums over 128 lanes of which half count, against a mean over the head's 64; and
   that a projection of finite numbers is finite. -/
module

public import proofs.«01_k».proof.Proof.ProjMath

@[expose] public section

noncomputable section

namespace Cert.Proj

open Idealize.ShloMosaic

/-- A head's lane divided by the root of the mean square of its lanes, and scaled. -/
def headNorm (f g : Fin 64 → EReal) (l : Fin 64) : EReal :=
  f l * Ideal.rsqrt (Ideal.div (∑ e : Fin 64, f e * f e) (Ideal.ofBits .f32 0x42800000#32) + Ideal.ofBits .f32 0x358637BD#32) * g l

/-- A lane of two heads, its mean square taken by weights in two products, the second of the squares' remainders. -/
def laneNorm (f g b₁ b₂ : Fin 128 → EReal) (l : Fin 128) : EReal :=
  f l * Ideal.rsqrt ((∑ e : Fin 128, f e * f e * b₁ e) + (∑ e : Fin 128, (f e * f e - f e * f e) * b₂ e) + Ideal.ofBits .f32 0x358637BD#32) * g l

/-- A sum over 128 lanes of which only the lanes of one head count. -/
theorem sum_head (F : Fin 128 → EReal) (j : ℕ) (hj : j < 2) :
    (∑ e : Fin 128, if e.val / 64 = j then F e else 0) = ∑ e : Fin 64, F ⟨j * 64 + e.val, by omega⟩ := by
  rw [Fin.sum_univ_add (a := 64) (b := 64) (fun e : Fin 128 => if e.val / 64 = j then F e else 0)]
  have hc : ∀ e : Fin 64, (Fin.castAdd 64 e).val / 64 = 0 := fun e => by simp only [Fin.val_castAdd]; omega
  have hn : ∀ e : Fin 64, (Fin.natAdd 64 e).val / 64 = 1 := fun e => by simp only [Fin.val_natAdd]; omega
  simp only [hc, hn]
  obtain rfl | rfl : j = 0 ∨ j = 1 := by omega
  · simp only [if_true, if_neg (show ¬ (1 = 0) by decide), Finset.sum_const_zero, add_zero]
    refine Finset.sum_congr rfl fun e _ => congrArg F (Fin.ext ?_)
    simp
  · simp only [if_true, if_neg (show ¬ (0 = 1) by decide), Finset.sum_const_zero, zero_add]
    refine Finset.sum_congr rfl fun e _ => congrArg F (Fin.ext ?_)
    simp only [Fin.val_natAdd, one_mul]

theorem coe_total {n : ℕ} (f : Fin n → ℝ) : ((∑ d, f d : ℝ) : EReal) = ∑ d, (f d : EReal) :=
  map_sum (⟨⟨Real.toEReal, EReal.coe_zero⟩, EReal.coe_add⟩ : ℝ →+ EReal) f Finset.univ

theorem ofBits_64 : Ideal.ofBits .f32 0x42800000#32 = ((64 : ℝ) : EReal) := by
  simp [Ideal.ofBits, Ideal.ieee]
  rw [← EReal.coe_mul]
  exact congrArg Real.toEReal (by norm_num)

theorem ofBits_1024 : Ideal.ofBits .f32 0x44800000#32 = ((1024 : ℝ) : EReal) := by
  simp [Ideal.ofBits, Ideal.ieee]
  rw [← EReal.coe_mul]
  exact congrArg Real.toEReal (by norm_num)

theorem ofBits_eps : ∃ r : ℝ, 0 < r ∧ Ideal.ofBits .f32 0x358637BD#32 = (r : EReal) := by
  simp [Ideal.ofBits, Ideal.ieee]
  exact ⟨8796093 * (2 ^ 43)⁻¹, by norm_num, (EReal.coe_mul _ _).symm⟩

/-- On finite lanes, the weights of a head's mean give the head's norm. -/
theorem laneNorm_eq (r : Fin 128 → ℝ) (g b₁ b₂ : Fin 128 → EReal) (l : Fin 128)
    (h₁ : ∀ e : Fin 128, b₁ e = if e.val / 64 = l.val / 64 then ((1 / 64 : ℝ) : EReal) else 0) :
    laneNorm (fun e => (r e : EReal)) g b₁ b₂ l
      = headNorm (fun e => (r ⟨l.val / 64 * 64 + e.val, by omega⟩ : EReal)) (fun e => g ⟨l.val / 64 * 64 + e.val, by omega⟩) ⟨l.val % 64, by omega⟩ := by
  have hl : (⟨l.val / 64 * 64 + l.val % 64, by omega⟩ : Fin 128) = l := Fin.ext (by dsimp only; omega)
  have z : ∀ e : Fin 128, ((r e : EReal) * (r e : EReal) - (r e : EReal) * (r e : EReal)) * b₂ e = 0 := fun e => by
    rw [← EReal.coe_mul, ← EReal.coe_sub, sub_self, EReal.coe_zero, zero_mul]
  have w : ∀ e : Fin 128, (r e : EReal) * (r e : EReal) * b₁ e
      = if e.val / 64 = l.val / 64 then ((r e * r e * (1 / 64) : ℝ) : EReal) else 0 := fun e => by
    rw [h₁ e]
    split
    · rw [EReal.coe_mul, EReal.coe_mul]
    · exact mul_zero _
  unfold laneNorm headNorm
  simp only [z, w, hl]
  rw [sum_head (fun e => ((r e * r e * (1 / 64) : ℝ) : EReal)) (l.val / 64) (by omega), Finset.sum_const_zero, add_zero, ofBits_64,
    Ideal.div_coe (by norm_num), ← coe_total, ← Finset.sum_mul, EReal.coe_mul, coe_total]
  simp only [EReal.coe_mul]

theorem mul_self_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- The sum of the squares of entries of which one is infinite. -/
theorem squares_top {n : ℕ} (x : Fin n → EReal) (d : Fin n) (h : x d * x d = ⊤) : ∑ e, x e * x e = ⊤ := by
  rw [← Finset.add_sum_erase Finset.univ (fun e => x e * x e) (Finset.mem_univ d), h]
  exact EReal.top_add_of_ne_bot (ne_of_gt (lt_of_lt_of_le EReal.bot_lt_zero (Finset.sum_nonneg fun e _ => mul_self_nonneg' (x e))))

/-- An entry divided by the root of the mean square is finite, whatever the entries: by an infinite root it is zero. -/
theorem normalised_real {n : ℕ} (x : Fin n → EReal) (k : ℝ) (hk : 0 < k) (d : Fin n) :
    ∃ s : ℝ, x d * Ideal.rsqrt (Ideal.div (∑ e, x e * x e) (k : EReal) + Ideal.ofBits .f32 0x358637BD#32) = (s : EReal) := by
  obtain ⟨ε, hε, he⟩ := ofBits_eps
  by_cases h : ∃ e, x e * x e = ⊤
  · obtain ⟨e, h⟩ := h
    refine ⟨0, ?_⟩
    rw [squares_top x e h, Ideal.div_coe hk.ne', EReal.top_mul_coe_of_pos (by positivity), he, EReal.top_add_coe]
    exact mul_zero _
  · have hr : ∀ e, ∃ r : ℝ, x e = r := fun e => by
      by_contra q
      refine h ⟨e, ?_⟩
      generalize x e = y at q
      induction y with
      | bot => exact EReal.bot_mul_bot
      | top => exact EReal.top_mul_top
      | coe r => exact absurd ⟨r, rfl⟩ q
    choose f hf using hr
    simp only [hf]
    have e : (∑ e, (f e : EReal) * (f e : EReal)) = ((∑ e, f e * f e : ℝ) : EReal) := by
      rw [coe_total]
      simp only [EReal.coe_mul]
    have hp : 0 < (∑ e, f e * f e) * (1 / k) + ε :=
      add_pos_of_nonneg_of_pos (mul_nonneg (Finset.sum_nonneg fun e _ => mul_self_nonneg _) (by positivity)) hε
    rw [e, Ideal.div_coe hk.ne', he, ← EReal.coe_mul, ← EReal.coe_add, Ideal.rsqrt_coe, if_neg (not_lt.2 hp.le), if_neg hp.ne']
    exact ⟨_, (EReal.coe_mul _ _).symm⟩

/-- A column of a projection is finite when what the rows are modulated and projected by is. -/
theorem proj_real (x g sc sh w : Fin 1024 → EReal) (hg : ∀ d, ∃ r : ℝ, g d = r) (hsc : ∀ d, ∃ r : ℝ, sc d = r)
    (hsh : ∀ d, ∃ r : ℝ, sh d = r) (hw : ∀ d, ∃ r : ℝ, w d = r) : ∃ r : ℝ, proj x g sc sh w = r := by
  have hx := fun d => normalised_real x 1024 (by norm_num) d
  choose fx hx using hx
  choose fg hg using hg
  choose fc hc using hsc
  choose fh hh using hsh
  choose fw hw using hw
  have h1 : Ideal.ofBits .f32 0x3F800000#32 = ((1 : ℝ) : EReal) := by
    simp [Ideal.ofBits, Ideal.ieee]
    rw [← EReal.coe_mul, ← EReal.coe_one]
    exact congrArg Real.toEReal (by norm_num)
  refine ⟨∑ d, (fx d * fg d * (1 + fc d) + fh d) * fw d, ?_⟩
  rw [coe_total]
  refine Finset.sum_congr rfl fun d _ => ?_
  unfold modulated
  rw [ofBits_1024, hx d, hg d, hc d, hh d, hw d, h1]
  simp only [EReal.coe_mul, EReal.coe_add]

end Cert.Proj

end
-- ==== Proof.OddBlock.lean ====
/- What one grid point of the projection with head norms leaves in its three output blocks, as functions of the blocks
   it reads. -/
module

public import proofs.«01_k».proof.Proof.Gen.Kernel3Ideal.Value
public import proofs.«01_k».proof.Proof.HeadNorm
public import proofs.«01_k».proof.Proof.ProjBlock
public import Idealize.ShloMosaic.Lib.Pipeline.ValueKit
public import Idealize.ShloMosaic.Lib.Pointwise

@[expose] public section

set_option maxRecDepth 16384

noncomputable section

namespace Cert.Kernel3Ideal.Odd

open Cert.Kernel3Ideal Cert.Kernel3Ideal.Gen Idealize.ShloMosaic Idealize.ShloMosaic.TcCoe Idealize.SL.Sem Cert.Proj
open Cert.Kernel2Ideal.Proj (turn firstHalf select_firstHalf)

variable (z0 : Vec Ideal S1x512x1024 .f32) (z1 : Vec Ideal S1x1024 .f32) (z2 z3 : Vec Ideal S1x1x1024 .f32)
  (w : Vec Ideal S1024x1536 .bf16) (cs sn : Vec Ideal S512x128 .f32) (z7 : Vec Ideal S8x128 .f32) (z8 : Vec Ideal S128x128 .bf16)

/-- Column `col` of row `r` of the block's projection. -/
def seg (r : Fin 512) (col : Fin 1536) : EReal :=
  proj (fun e => z0 (ix3 0 r e)) (fun e => z1 (ix2 0 e)) (fun e => z2 (ix3 0 0 e)) (fun e => z3 (ix3 0 0 e)) (fun e => w (ix2 e col))

/-- The modulated rows the kernel computes. -/
theorem modulated_at (r : Fin 512) (d : Fin 1024) :
    k0_pay2 (F := Ideal) z0 z1 z2 z3 (ix2 r d)
      = modulated (fun e => z0 (ix3 0 r e)) (fun e => z1 (ix2 0 e)) (fun e => z2 (ix3 0 0 e)) (fun e => z3 (ix3 0 0 e)) d := by
  pointwise [k0_pay2, modulated]

/-- A chunk of 128 columns with its two heads' norms applied. -/
def normed (v : FVec Ideal S512x128 .f32) (b : Vec Ideal S128x128 .bf16) (g : Vec Ideal S1x128 .f32) : FVec Ideal S512x128 .f32 :=
  k0_pay9 v (truncf .bf16 (mulf v v) bitsLt_bf16_f32)
    (truncf .bf16 (subf (mulf v v) (extf .f32 (truncf .bf16 (mulf v v) bitsLt_bf16_f32) bitsLt_bf16_f32)) bitsLt_bf16_f32) (k0_pay8 b) b g

theorem normed_at (v : FVec Ideal S512x128 .f32) (b : Vec Ideal S128x128 .bf16) (g : Vec Ideal S1x128 .f32) (r : Fin 512) (l : Fin 128) :
    normed v b g (ix2 r l)
      = laneNorm (fun e => v (ix2 r e)) (fun e => g (ix2 0 e)) (fun e => b (ix2 e l)) (fun e => b (ix2 e l)) l := by
  pointwise [normed, k0_pay9, k0_pay8, laneNorm]

/-- A chunk of 128 query columns as it is stored. -/
def storedQ (v : FVec Ideal S512x128 .f32) (c s : Vec Ideal S512x128 .f32) : FVec Ideal S1x512x128 .bf16 :=
  k0_pay28 v (Scalar.select (Scalar.cmpi .eq 32#32 0#32) 1#32 32#32) k0_pay27 c s

/-- A chunk of 128 key columns as it is stored. -/
def storedK (v : FVec Ideal S512x128 .f32) (c s : Vec Ideal S512x128 .f32) : FVec Ideal S1x512x128 .bf16 :=
  k0_pay53 v (Scalar.select (Scalar.cmpi .eq 32#32 0#32) 1#32 32#32) k0_pay51 k0_pay52 c s

theorem storedQ_at (v : FVec Ideal S512x128 .f32) (c s : Vec Ideal S512x128 .f32) (a : Fin 1) (r : Fin 512) (l : Fin 128) :
    storedQ v c s (ix3 a r l)
      = turn (fun l => v (ix2 r l)) (fun l => c (ix2 r l)) (fun l => s (ix2 r l)) l * Ideal.ofBits .f32 0x3E000000#32 := by
  pointwise [storedQ, k0_pay28, k0_pay27, turn]
  rw [← select_firstHalf]
  rfl

theorem storedK_at (v : FVec Ideal S512x128 .f32) (c s : Vec Ideal S512x128 .f32) (a : Fin 1) (r : Fin 512) (l : Fin 128) :
    storedK v c s (ix3 a r l) = turn (fun l => v (ix2 r l)) (fun l => c (ix2 r l)) (fun l => s (ix2 r l)) l := by
  pointwise [storedK, k0_pay53, k0_pay51, k0_pay52, turn]
  rw [← select_firstHalf]
  rfl

section Stores
variable (p : FVec Ideal S512x1024 .f32) (pk : FVec Ideal S512x256 .f32) (wb : Vec Ideal S1024x1024 .bf16)
  (b : Vec Ideal S128x128 .bf16) (g : Vec Ideal S1x128 .f32) (c s : Vec Ideal S512x128 .f32)

/-! The stores of a chunk are one function of its columns, the means' weights, the gains and the tables, however the
    kernel's text cuts them into parts. -/

theorem store0 : k0_pay13 (k0_pay10 (k0_pay4 z0 z1 z2 z3 wb) (k0_pay6 z0 z1 z2 z3 wb) (k0_pay7 z0 z1 z2 z3 wb) (k0_pay8 b) b g) (k0_pay11 (k0_pay4 z0 z1 z2 z3 wb) (k0_pay6 z0 z1 z2 z3 wb) (k0_pay7 z0 z1 z2 z3 wb) (k0_pay8 b) b g c) (k0_pay12 s)
    = storedQ (normed (extractStridedSlice S512x128 ![0, 0] (k0_pay3 z0 z1 z2 z3 wb) slices_S512x1024_o0_0_S512x128) b g) c s := rfl
theorem store1 : k0_pay19 (k0_pay14 p b b g) (Scalar.select (Scalar.cmpi .eq 32#32 0#32) 1#32 32#32) k0_pay15 k0_pay16 k0_pay17 k0_pay18 c s
    = storedQ (normed (extractStridedSlice S512x128 ![0, 128] p slices_S512x1024_o0_128_S512x128) b g) c s := rfl
theorem store2 : k0_pay21 (k0_pay20 p b b) g c s
    = storedQ (normed (extractStridedSlice S512x128 ![0, 256] p slices_S512x1024_o0_256_S512x128) b g) c s := rfl
theorem store3 : k0_pay25 (k0_pay23 (k0_pay22 p) b b g) (k0_pay24 (k0_pay22 p) b b g) c s
    = storedQ (normed (extractStridedSlice S512x128 ![0, 384] p slices_S512x1024_o0_384_S512x128) b g) c s := rfl
theorem store4 : k0_pay28 (k0_pay26 p b b g) (Scalar.select (Scalar.cmpi .eq 32#32 0#32) 1#32 32#32) k0_pay27 c s
    = storedQ (normed (extractStridedSlice S512x128 ![0, 512] p slices_S512x1024_o0_512_S512x128) b g) c s := rfl
theorem store5 : k0_pay35 (k0_pay34 (k0_pay29 p) (k0_pay32 p) (k0_pay33 p b) b g c s)
    = storedQ (normed (extractStridedSlice S512x128 ![0, 640] p slices_S512x1024_o0_640_S512x128) b g) c s := rfl
theorem store6 : k0_pay40 (k0_pay36 p b b g) k0_pay37 k0_pay38 k0_pay39 c s
    = storedQ (normed (extractStridedSlice S512x128 ![0, 768] p slices_S512x1024_o0_768_S512x128) b g) c s := rfl
theorem store7 : k0_pay43 (k0_pay41 p b b) (k0_pay42 g) c s
    = storedQ (normed (extractStridedSlice S512x128 ![0, 896] p slices_S512x1024_o0_896_S512x128) b g) c s := rfl
theorem storeK0 : k0_pay49 (k0_pay45 pk b b g) k0_pay46 (k0_pay47 pk b b g) (k0_pay48 pk b b g) c s
    = storedK (normed (extractStridedSlice S512x128 ![0, 0] pk slices_S512x256_o0_0_S512x128) b g) c s := rfl
theorem storeK1 : k0_pay53 (k0_pay50 pk b b g) (Scalar.select (Scalar.cmpi .eq 32#32 0#32) 1#32 32#32) k0_pay51 k0_pay52 c s
    = storedK (normed (extractStridedSlice S512x128 ![0, 128] pk slices_S512x256_o0_128_S512x128) b g) c s := rfl

end Stores

/-- A chunk of columns normed by head. -/
def segNorm (r : Fin 512) (base : ℕ) (hb : base + 128 ≤ 1536) (g : Fin 8) (l : Fin 128) : EReal :=
  laneNorm (fun e => seg z0 z1 z2 z3 w r ⟨base + e.val, by omega⟩) (fun e => z7 (ix2 g e)) (fun e => z8 (ix2 e l)) (fun e => z8 (ix2 e l)) l

/-- The block of queries: in the chunk of column `l`, the 128 projected columns normed by head, rotated, and scaled. -/
def qBlk (r : Fin 512) (l : Fin 1024) : EReal :=
  turn (segNorm z0 z1 z2 z3 w z7 z8 r (l.val / 128 * 128) (by omega) 0) (fun e => cs (ix2 r e)) (fun e => sn (ix2 r e)) ⟨l.val % 128, by omega⟩
    * Ideal.ofBits .f32 0x3E000000#32

/-- The block of keys. -/
def kBlk (r : Fin 512) (l : Fin 256) : EReal :=
  turn (segNorm z0 z1 z2 z3 w z7 z8 r (1024 + l.val / 128 * 128) (by omega) 1) (fun e => cs (ix2 r e)) (fun e => sn (ix2 r e)) ⟨l.val % 128, by omega⟩

/-- A chunk of queries is that part of their block, when its lanes are those of the projection. -/
theorem chunk_q (v : FVec Ideal S512x128 .f32) (b : Vec Ideal S128x128 .bf16) (g : Vec Ideal S1x128 .f32) (c s : Vec Ideal S512x128 .f32)
    (x : S1x512x128.Idx) (r : Fin 512) (l : Fin 1024) (j : ℕ) (hj : j < 8)
    (h1 : r.val = (x 1 : ℕ)) (h2 : l.val = j * 128 + (x 2 : ℕ))
    (hv : ∀ (r : Fin 512) (e : Fin 128), v (ix2 r e) = seg z0 z1 z2 z3 w r ⟨j * 128 + e.val, by omega⟩)
    (hb : ∀ d e : Fin 128, b (ix2 d e) = z8 (ix2 d e)) (hg : ∀ e : Fin 128, g (ix2 0 e) = z7 (ix2 0 e))
    (hc : ∀ (r : Fin 512) (e : Fin 128), c (ix2 r e) = cs (ix2 r e)) (hs : ∀ (r : Fin 512) (e : Fin 128), s (ix2 r e) = sn (ix2 r e)) :
    storedQ (normed v b g) c s x = qBlk z0 z1 z2 z3 w cs sn z7 z8 r l := by
  idx_vars x
  obtain rfl : r = x1 := Fin.ext h1
  obtain rfl : j = l.val / 128 := by have := x2.isLt; have : l.val = j * 128 + x2.val := h2; omega
  have e : x2 = ⟨l.val % 128, by omega⟩ := Fin.ext (by have : l.val = l.val / 128 * 128 + x2.val := h2; dsimp only; omega)
  rw [e, storedQ_at]
  unfold qBlk segNorm
  simp only [normed_at, hv, hb, hg, hc, hs]

/-- A chunk of keys is that part of their block. -/
theorem chunk_k (v : FVec Ideal S512x128 .f32) (b : Vec Ideal S128x128 .bf16) (g : Vec Ideal S1x128 .f32) (c s : Vec Ideal S512x128 .f32)
    (x : S1x512x128.Idx) (r : Fin 512) (l : Fin 256) (j : ℕ) (hj : j < 2)
    (h1 : r.val = (x 1 : ℕ)) (h2 : l.val = j * 128 + (x 2 : ℕ))
    (hv : ∀ (r : Fin 512) (e : Fin 128), v (ix2 r e) = seg z0 z1 z2 z3 w r ⟨1024 + (j * 128 + e.val), by omega⟩)
    (hb : ∀ d e : Fin 128, b (ix2 d e) = z8 (ix2 d e)) (hg : ∀ e : Fin 128, g (ix2 0 e) = z7 (ix2 1 e))
    (hc : ∀ (r : Fin 512) (e : Fin 128), c (ix2 r e) = cs (ix2 r e)) (hs : ∀ (r : Fin 512) (e : Fin 128), s (ix2 r e) = sn (ix2 r e)) :
    storedK (normed v b g) c s x = kBlk z0 z1 z2 z3 w cs sn z7 z8 r l := by
  idx_vars x
  obtain rfl : r = x1 := Fin.ext h1
  obtain rfl : j = l.val / 128 := by have := x2.isLt; have : l.val = j * 128 + x2.val := h2; omega
  have e : x2 = ⟨l.val % 128, by omega⟩ := Fin.ext (by have : l.val = l.val / 128 * 128 + x2.val := h2; dsimp only; omega)
  rw [e, storedK_at]
  unfold kBlk segNorm
  simp only [normed_at, hv, hb, hg, hc, hs, Nat.add_assoc]

/-- A query column of the block's projection. -/
theorem query_col (r : Fin 512) (l : Fin 1024) : k0_pay3 (F := Ideal) z0 z1 z2 z3 (View.ld w r0_3) (ix2 r l) = seg z0 z1 z2 z3 w r ⟨l.val, by omega⟩ := by
  pointwise [k0_pay3, modulated_at, seg, proj]

/-- A key column of the block's projection. -/
theorem key_col (r : Fin 512) (l : Fin 256) :
    k0_pay44 (F := Ideal) (k0_pay2 z0 z1 z2 z3) (View.ld w r0_15) (ix2 r l) = seg z0 z1 z2 z3 w r ⟨1024 + l.val, by omega⟩ := by
  pointwise [k0_pay44, modulated_at, seg, proj]

/-- The values as they are stored. -/
theorem out11 (y0 : Fin 1) (r : Fin 512) (l : Fin 256) :
    out0_11 (F := Ideal) z0 z1 z2 z3 w cs sn z7 z8 (ix3 y0 r l) = seg z0 z1 z2 z3 w r ⟨1280 + l.val, by omega⟩ := by
  unfold_out out0_11
  canon_tiles x h
  idx_vars x
  obtain rfl : r = x1 := Fin.ext h1
  obtain rfl : l = x2 := Fin.ext h2
  pointwise [k0_pay1, k0_pay54, modulated_at, seg, proj]

/-- The keys as they are stored. -/
theorem out10 (y0 : Fin 1) (r : Fin 512) (l : Fin 256) :
    out0_10 (F := Ideal) z0 z1 z2 z3 w cs sn z7 z8 (ix3 y0 r l) = kBlk z0 z1 z2 z3 w cs sn z7 z8 r l := by
  unfold_out out0_10
  canon_tiles x h
  all_goals simp only [storeK0, storeK1]
  case piece0 => exact chunk_k z0 z1 z2 z3 w cs sn z7 z8 _ _ _ _ _ x r l 1 (by decide) h1 (h2.trans (by omega)) (fun r e => by pointwise [key_col, seg, proj]) (fun d e => by pointwise []) (fun e => by pointwise []) (fun r e => by pointwise []) (fun r e => by pointwise [])
  case piece1 => exact chunk_k z0 z1 z2 z3 w cs sn z7 z8 _ _ _ _ _ x r l 0 (by decide) h1 (h2.trans (by omega)) (fun r e => by pointwise [key_col, seg, proj]) (fun d e => by pointwise []) (fun e => by pointwise []) (fun r e => by pointwise []) (fun r e => by pointwise [])

/-- The queries as they are stored. -/
theorem out9 (y0 : Fin 1) (r : Fin 512) (l : Fin 1024) :
    out0_9 (F := Ideal) z0 z1 z2 z3 w cs sn z7 z8 (ix3 y0 r l) = qBlk z0 z1 z2 z3 w cs sn z7 z8 r l := by
  have hb : ∀ d e : Fin 128, View.ld z8 r0_4 (ix2 d e) = z8 (ix2 d e) := fun d e => by pointwise []
  have hg : ∀ e : Fin 128, View.ld z7 r0_5 (ix2 0 e) = z7 (ix2 0 e) := fun e => by pointwise []
  have hc : ∀ (r : Fin 512) (e : Fin 128), View.ld cs r0_6 (ix2 r e) = cs (ix2 r e) := fun r e => by pointwise []
  have hs : ∀ (r : Fin 512) (e : Fin 128), View.ld sn r0_6 (ix2 r e) = sn (ix2 r e) := fun r e => by pointwise []
  unfold_out out0_9
  canon_tiles x h
  all_goals simp only [store0, store1, store2, store3, store4, store5, store6, store7]
  case piece7 => exact chunk_q z0 z1 z2 z3 w cs sn z7 z8 _ _ _ _ _ x r l 0 (by decide) h1 (h2.trans (by omega)) (fun r e => by pointwise [query_col, seg, proj]) hb hg hc hs
  case piece6 => exact chunk_q z0 z1 z2 z3 w cs sn z7 z8 _ _ _ _ _ x r l 1 (by decide) h1 (h2.trans (by omega)) (fun r e => by pointwise [query_col, seg, proj]) hb hg hc hs
  case piece5 => exact chunk_q z0 z1 z2 z3 w cs sn z7 z8 _ _ _ _ _ x r l 2 (by decide) h1 (h2.trans (by omega)) (fun r e => by pointwise [query_col, seg, proj]) hb hg hc hs
  case piece4 => exact chunk_q z0 z1 z2 z3 w cs sn z7 z8 _ _ _ _ _ x r l 3 (by decide) h1 (h2.trans (by omega)) (fun r e => by pointwise [query_col, seg, proj]) hb hg hc hs
  case piece3 => exact chunk_q z0 z1 z2 z3 w cs sn z7 z8 _ _ _ _ _ x r l 4 (by decide) h1 (h2.trans (by omega)) (fun r e => by pointwise [query_col, seg, proj]) hb hg hc hs
  case piece2 => exact chunk_q z0 z1 z2 z3 w cs sn z7 z8 _ _ _ _ _ x r l 5 (by decide) h1 (h2.trans (by omega)) (fun r e => by pointwise [query_col, seg, proj]) hb hg hc hs
  case piece1 => exact chunk_q z0 z1 z2 z3 w cs sn z7 z8 _ _ _ _ _ x r l 6 (by decide) h1 (h2.trans (by omega)) (fun r e => by pointwise [query_col, seg, proj]) hb hg hc hs
  case piece0 => exact chunk_q z0 z1 z2 z3 w cs sn z7 z8 _ _ _ _ _ x r l 7 (by decide) h1 (h2.trans (by omega)) (fun r e => by pointwise [query_col, seg, proj]) hb hg hc hs

end Cert.Kernel3Ideal.Odd

end
-- ==== Proof.OddArrays.lean ====
/- The arrays the call of the projection with head norms reads, but for its tables, as functions of the arguments. -/
module

public import proofs.«01_k».proof.Proof.OddBlock
public import proofs.«01_k».proof.Proof.ProjTables
public import Idealize.ShloMosaic.Lib.Tactic.CleanTypes
public import Idealize.ShloMosaic.Lib.Claim
public import Idealize.ShloMosaic.Lib.Routing.OpsSet
public import Idealize.ShloMosaic.Lib.Routing.OpsPair
public import Idealize.ShloMosaic.Lib.StableHlo.ReadAt

@[expose] public section

set_option maxRecDepth 16384

noncomputable section

namespace Cert.Kernel3Ideal.Odd

open Cert.Kernel3Ideal Cert.Kernel3Ideal.Gen Cert.Kernel3Ideal.Value Idealize.ShloMosaic Idealize.ShloMosaic.TcCoe Idealize.SL.Sem Cert.Proj Routing
open Cert.Kernel2Ideal.Proj (rowWord)

variable (m : (ℓ : Loc nD τ sig) → Buf (Elt Ideal) ℓ) (c : Dev nD)

/-- The modulation's scales, a row for each batch. -/
theorem scale_at (a : FVec Ideal S16x1024 .f32) (h : m ((c.tc : Thread nD τ).loc main_arg2) = a) (b : Fin 16) (d : Fin 1024) :
    (V m c main_v11 : FVec Ideal S16x1x1024 .f32) (ix3 b 0 d) = a (ix2 b d) := by
  subst h
  unfold V
  after_reads_at

/-- The modulation's shifts. -/
theorem shift_at (a : FVec Ideal S16x1024 .f32) (h : m ((c.tc : Thread nD τ).loc main_arg3) = a) (b : Fin 16) (d : Fin 1024) :
    (V m c main_v12 : FVec Ideal S16x1x1024 .f32) (ix3 b 0 d) = a (ix2 b d) := by
  subst h
  unfold V
  after_reads_at

/-- The weights. -/
theorem weight_at (a : FVec Ideal S1024x1536 .f32) (h : m ((c.tc : Thread nD τ).loc main_arg4) = a) (d : Fin 1024) (l : Fin 1536) :
    (V m c main_v13 : FVec Ideal S1024x1536 .bf16) (ix2 d l) = a (ix2 d l) := by
  subst h
  unfold V
  after_reads_at

/-- The norm's gains. -/
theorem gain_at (a : FVec Ideal S1024 .f32) (h : m ((c.tc : Thread nD τ).loc main_arg1) = a) (d : Fin 1024) :
    (V m c main_v55 : FVec Ideal S1x1024 .f32) (ix2 0 d) = a (ix1 d) := by
  subst h
  unfold V
  after_reads_at

/-- Whether two lanes are of one head, as a number. -/
theorem sameHead : ∀ d l : Fin 128, (IntOp.cmpi CmpIPredicate.eq (BitVec.ofNat 32 (d.val / 64)) (BitVec.ofNat 32 (l.val / 64))).toNat
    = if d.val / 64 = l.val / 64 then 1 else 0 := by decide +kernel

/-- The means' weights: a sixty-fourth between the lanes of one head. -/
theorem mean_at (d l : Fin 128) :
    (V m c main_v67 : FVec Ideal S128x128 .bf16) (ix2 d l) = if d.val / 64 = l.val / 64 then ((1 / 64 : ℝ) : EReal) else 0 := by
  unfold V
  after_reads_at
  refine (congrArg₂ Ideal.div (congrArg (FloatOps.uitofp (F := Ideal) FTy.f32) (congrArg₂ (IntOp.cmpi CmpIPredicate.eq)
    (rowWord ⟨d.val, by omega⟩) (rowWord ⟨l.val, by omega⟩))) ofBits_64).trans ?_
  rw [Ideal.div_coe (by norm_num)]
  show ((((IntOp.cmpi CmpIPredicate.eq (BitVec.ofNat 32 (d.val / 64)) (BitVec.ofNat 32 (l.val / 64))).toNat : ℕ) : ℝ) : EReal) * _ = _
  rw [sameHead]
  split
  · rw [Nat.cast_one, EReal.coe_one, one_mul]
  · rw [Nat.cast_zero, EReal.coe_zero, zero_mul]

/-- Where an update of a row lands: in the row named, at its own lane. -/
theorem lands (i : IVec S1 32) (k : Fin 8) (hi : (i (ix1 0)).toInt = (k.val : ℤ)) (e : Fin 128) (r : Fin 8) (l : Fin 128) :
    scatter_S8x128_S1_S128_0_0_0_0.resultIdx? (ix1 e) i = some (ix2 r l) ↔ k = r ∧ e = l := by
  have e0 : scatter_S8x128_S1_S128_0_0_0_0.start (ix1 e) i 0 = (i (ix1 0)).toInt := by
    refine congrArg (fun t => (i t).toInt) ?_
    funext b
    match b with
    | ⟨0, _⟩ => rfl
  refine (resultIdx?_ix2 (R := 8) (C := 128) _ _ _ _ _).trans ?_
  have w0 : scatter_S8x128_S1_S128_0_0_0_0.window (ix1 e) 0 = 0 := rfl
  have w1 : scatter_S8x128_S1_S128_0_0_0_0.window (ix1 e) 1 = e.val := rfl
  have s1 : scatter_S8x128_S1_S128_0_0_0_0.start (ix1 e) i 1 = 0 := rfl
  rw [e0, hi, w0, w1, s1, Fin.ext_iff, Fin.ext_iff]
  omega

/-- A row of a table set. -/
theorem set_row (t : FVec Ideal S8x128 .f32) (i : IVec S1 32) (u : FVec Ideal S128 .f32) (k : Fin 8) (hi : (i (ix1 0)).toInt = (k.val : ℤ))
    (r : Fin 8) (l : Fin 128) :
    Host.scatter scatter_S8x128_S1_S128_0_0_0_0 (fun _ b => b) t i u (ix2 r l) = if k = r then u (ix1 l) else t (ix2 r l) := by
  have q : ∀ j : S128.Idx, scatter_S8x128_S1_S128_0_0_0_0.resultIdx? j i = some (ix2 r l) → k = r ∧ j 0 = l := fun j hj =>
    (lands i k hi (j 0) r l).1 ((congrArg (fun t => scatter_S8x128_S1_S128_0_0_0_0.resultIdx? t i) (eq_ix1 j).symm).trans hj)
  split
  · next h =>
    exact scatter_set_hit _ _ _ _ _ _ (fun j hj => (congrArg u (eq_ix1 j)).trans (congrArg (fun t => u (ix1 t)) (q j hj).2)) (ix1 l)
      ((lands i k hi l r l).2 ⟨h, rfl⟩)
  · next h => exact scatter_set_miss _ _ _ _ _ fun j hj => h (q j hj).1

/-- The queries' gains, in the table's first row. -/
theorem qgain_at (a : FVec Ideal S64 .f32) (h : m ((c.tc : Thread nD τ).loc main_arg5) = a) (l : Fin 128) :
    (V m c main_v10 : FVec Ideal S8x128 .f32) (ix2 0 l) = a (ix1 ⟨l.val % 64, by omega⟩) := by
  subst h
  unfold V
  after_reads_at
  refine (set_row _ _ _ 1 rfl 0 l).trans ?_
  rw [if_neg (by decide)]
  refine (set_row _ _ _ 0 rfl 0 l).trans ?_
  rw [if_pos rfl]
  rfl

/-- The keys' gains, in the table's second row. -/
theorem kgain_at (a : FVec Ideal S64 .f32) (h : m ((c.tc : Thread nD τ).loc main_arg6) = a) (l : Fin 128) :
    (V m c main_v10 : FVec Ideal S8x128 .f32) (ix2 1 l) = a (ix1 ⟨l.val % 64, by omega⟩) := by
  subst h
  unfold V
  after_reads_at
  refine (set_row _ _ _ 1 rfl 1 l).trans ?_
  rw [if_pos rfl]
  rfl

end Cert.Kernel3Ideal.Odd

end
-- ==== Proof.OddTables.lean ====
/- The tables of cosines and sines the call of the projection with head norms reads: the angles of a row's place in the grid. -/
module

public import proofs.«01_k».proof.Proof.ProjTables
public import proofs.«01_k».proof.Proof.OddBlock
public import Idealize.ShloMosaic.Lib.Tactic.CleanTypes
public import Idealize.ShloMosaic.Lib.Claim
public import Idealize.ShloMosaic.Lib.StableHlo.ReadAt

@[expose] public section

set_option maxRecDepth 16384

noncomputable section

namespace Cert.Kernel3Ideal.Odd

open Cert.Kernel3Ideal Cert.Kernel3Ideal.Gen Cert.Kernel3Ideal.Value Idealize.ShloMosaic Idealize.ShloMosaic.TcCoe Idealize.SL.Sem Cert.Proj
open Cert.Kernel2Ideal.Proj (rowWord colWord)

variable (m : (ℓ : Loc nD τ sig) → Buf (Elt Ideal) ℓ) (c : Dev nD)

/-- The cosine of a row's angle. -/
theorem cos_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 86 (Proc.tc.devRef main_v39) : FVec Ideal S4096x16 .f32) (ix2 n j) = Ideal.cos (angle n l) := by
  obtain ⟨j, hj'⟩ := j
  obtain rfl : j = l.val % 16 := hj
  after_reads_at
  unfold angle
  refine congrArg Ideal.cos (congrArg₂ (· * ·) (((congrArg (FloatOps.sitofp (F := Ideal) FTy.f32) (rowWord n)).trans (int_word _ (by omega))).trans (by rw [if_pos hl])) ?_)
  rw [int_word _ (by omega)]
  pointwise [freq]

/-- The cosine of a column's angle. -/
theorem cos_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 86 (Proc.tc.devRef main_v40) : FVec Ideal S4096x16 .f32) (ix2 n j) = Ideal.cos (angle n l) := by
  obtain ⟨j, hj'⟩ := j
  obtain rfl : j = l.val % 16 := hj
  after_reads_at
  unfold angle
  refine congrArg Ideal.cos (congrArg₂ (· * ·) (((congrArg (FloatOps.sitofp (F := Ideal) FTy.f32) (colWord n)).trans (int_word _ (by omega))).trans (by rw [if_neg hl])) ?_)
  rw [int_word _ (by omega)]
  pointwise [freq]

/-- The negated sine of a row's angle. -/
theorem nsin_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 93 (Proc.tc.devRef main_v43) : FVec Ideal S4096x16 .f32) (ix2 n j) = -Ideal.sin (angle n l) := by
  obtain ⟨j, hj'⟩ := j
  obtain rfl : j = l.val % 16 := hj
  after_reads_at
  unfold angle
  refine congrArg (fun a : EReal => -a) (congrArg Ideal.sin (congrArg₂ (· * ·) (((congrArg (FloatOps.sitofp (F := Ideal) FTy.f32) (rowWord n)).trans (int_word _ (by omega))).trans (by rw [if_pos hl])) ?_))
  rw [int_word _ (by omega)]
  pointwise [freq]

/-- The sine of a row's angle. -/
theorem sin_row (n : Fin 4096) (l : Fin 64) (hl : l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 93 (Proc.tc.devRef main_v44) : FVec Ideal S4096x16 .f32) (ix2 n j) = Ideal.sin (angle n l) := by
  obtain ⟨j, hj'⟩ := j
  obtain rfl : j = l.val % 16 := hj
  after_reads_at
  unfold angle
  refine congrArg Ideal.sin (congrArg₂ (· * ·) (((congrArg (FloatOps.sitofp (F := Ideal) FTy.f32) (rowWord n)).trans (int_word _ (by omega))).trans (by rw [if_pos hl])) ?_)
  rw [int_word _ (by omega)]
  pointwise [freq]

/-- The negated sine of a column's angle. -/
theorem nsin_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 93 (Proc.tc.devRef main_v46) : FVec Ideal S4096x16 .f32) (ix2 n j) = -Ideal.sin (angle n l) := by
  obtain ⟨j, hj'⟩ := j
  obtain rfl : j = l.val % 16 := hj
  after_reads_at
  unfold angle
  refine congrArg (fun a : EReal => -a) (congrArg Ideal.sin (congrArg₂ (· * ·) (((congrArg (FloatOps.sitofp (F := Ideal) FTy.f32) (colWord n)).trans (int_word _ (by omega))).trans (by rw [if_neg hl])) ?_))
  rw [int_word _ (by omega)]
  pointwise [freq]

/-- The sine of a column's angle. -/
theorem sin_col (n : Fin 4096) (l : Fin 64) (hl : ¬ l.val < 32) (j : Fin 16) (hj : j.val = l.val % 16) :
    (StableHlo.upto [hostOps0, hostOps0_1, hostOps0_2, hostOps0_3, hostOps0_4, hostOps0_5, hostOps0_6, hostOps0_7, hostOps0_8].flatten (fun b => m (c, b)) 93 (Proc.tc.devRef main_v47) : FVec Ideal S4096x16 .f32) (ix2 n j) = Ideal.sin (angle n l) := by
  obtain ⟨j, hj'⟩ := j
  obtain rfl : j = l.val % 16 := hj
  after_reads_at
  unfold angle
  refine congrArg Ideal.sin (congrArg₂ (· * ·) (((congrArg (FloatOps.sitofp (F := Ideal) FTy.f32) (colWord n)).trans (int_word _ (by omega))).trans (by rw [if_neg hl])) ?_)
  rw [int_word _ (by omega)]
  pointwise [freq]

/-- The table of cosines. -/
theorem cos_at (n : Fin 4096) (l : Fin 128) :
    (V m c main_v51 : FVec Ideal S4096x128 .f32) (ix2 n l) = Ideal.cos (angle n ⟨l.val % 64, by omega⟩) := by
  unfold V
  after_reads_at
  split
  · exact cos_row m c n ⟨l.val % 64, by omega⟩ (by dsimp only; omega) _ (by dsimp only; omega)
  · split
    · exact cos_row m c n ⟨l.val % 64, by omega⟩ (by dsimp only; omega) _ (by dsimp only; omega)
    · split
      · exact cos_col m c n ⟨l.val % 64, by omega⟩ (by dsimp only; omega) _ (by dsimp only; omega)
      · exact cos_col m c n ⟨l.val % 64, by omega⟩ (by dsimp only; omega) _ (by dsimp only; omega)

/-- The table of sines, negative in the first lane of a pair. -/
theorem sin_at (n : Fin 4096) (l : Fin 128) :
    (V m c main_v54 : FVec Ideal S4096x128 .f32) (ix2 n l)
      = if l.val % 32 < 16 then -Ideal.sin (angle n ⟨l.val % 64, by omega⟩) else Ideal.sin (angle n ⟨l.val % 64, by omega⟩) := by
  unfold V
  after_reads_at
  split
  · exact (nsin_row m c n ⟨l.val % 64, by omega⟩ (by dsimp only; omega) _ (by dsimp only; omega)).trans (if_pos (by omega)).symm
  · split
    · exact (sin_row m c n ⟨l.val % 64, by omega⟩ (by dsimp only; omega) _ (by dsimp only; omega)).trans (if_neg (by omega)).symm
    · split
      · exact (nsin_col m c n ⟨l.val % 64, by omega⟩ (by dsimp only; omega) _ (by dsimp only; omega)).trans (if_pos (by omega)).symm
      · exact (sin_col m c n ⟨l.val % 64, by omega⟩ (by dsimp only; omega) _ (by dsimp only; omega)).trans (if_neg (by omega)).symm

end Cert.Kernel3Ideal.Odd

end
-- ==== Proof.OddFinal.lean ====
/- The three arrays the call of the projection with head norms leaves: the queries, the keys and the values. -/
module

public import proofs.«01_k».proof.Proof.OddArrays
public import proofs.«01_k».proof.Proof.OddTables
public import proofs.«01_k».proof.Proof.ProjFinal

@[expose] public section

set_option maxRecDepth 16384

noncomputable section

namespace Cert.Kernel3Ideal.Odd

open Cert.Kernel3Ideal Cert.Kernel3Ideal.Gen Cert.Kernel3Ideal.Value Idealize.ShloMosaic Idealize.ShloMosaic.TcCoe Idealize.SL.Sem Cert.Proj
open Cert.Kernel2Ideal.Proj (turn_rotated)

variable (x : FVec Ideal S16x4096x1024 .f32) (g : FVec Ideal S1024 .f32) (sc sh : FVec Ideal S16x1024 .f32) (w : FVec Ideal S1024x1536 .f32) (gq gk : FVec Ideal S64 .f32)

/-- Column `col` of row `n` of batch `b` of the projection. -/
def column (b : Fin 16) (n : Fin 4096) (col : Fin 1536) : EReal :=
  proj (fun d => x (ix3 b n d)) (fun d => g (ix1 d)) (fun d => sc (ix2 b d)) (fun d => sh (ix2 b d)) (fun d => w (ix2 d col))

/-- The queries: 1024 columns, heads of 64 lanes side by side, normed, rotated and scaled by an eighth. -/
def qArr : FVec Ideal S16x4096x1024 .bf16 := fun y =>
  have hy : (y 2).val < 1024 := (y 2).isLt
  rotated (y 1) (headNorm (fun e => column x g sc sh w (y 0) (y 1) ⟨(y 2).val / 64 * 64 + e.val, by omega⟩) (fun e => gq (ix1 e))) ⟨(y 2).val % 64, by omega⟩
    * Ideal.ofBits .f32 0x3E000000#32

/-- The keys: 256 columns, four heads, normed and rotated. -/
def kArr : FVec Ideal S16x4096x256 .bf16 := fun y =>
  have hy : (y 2).val < 256 := (y 2).isLt
  rotated (y 1) (headNorm (fun e => column x g sc sh w (y 0) (y 1) ⟨1024 + ((y 2).val / 64 * 64 + e.val), by omega⟩) (fun e => gk (ix1 e))) ⟨(y 2).val % 64, by omega⟩

/-- The values: the last 256 columns. -/
def vArr : FVec Ideal S16x4096x256 .bf16 := fun y =>
  have hy : (y 2).val < 256 := (y 2).isLt
  column x g sc sh w (y 0) (y 1) ⟨1280 + (y 2).val, by omega⟩

/-- Where the windows stand at a grid point: batch `t / 8`, rows from `512 (t % 8)`. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![0, 0]
    ∧ win0_5.index t = ![t.val % 8, 0] ∧ win0_6.index t = ![t.val % 8, 0] ∧ win0_7.index t = ![0, 0] ∧ win0_8.index t = ![0, 0]
    ∧ win0_9.index t = ![t.val / 8, t.val % 8, 0] ∧ win0_10.index t = ![t.val / 8, t.val % 8, 0]
    ∧ win0_11.index t = ![t.val / 8, t.val % 8, 0] ∧ t.val < 128 :=
  (by decide +kernel : ∀ t : Fin grid0.N, _)

/-! The blocks of a grid point, of any array. -/

theorem x_read (A : FVec Ideal S16x4096x1024 .f32) (t : Fin cfg0.N) (ht : t.val < 128) (r : Fin 512) (d : Fin 1024) :
    (((cfg0.win 0).blk t).view.read (Elt Ideal) A : FVec Ideal S1x512x1024 .f32) (ix3 0 r d)
      = A (ix3 ⟨t.val / 8, by omega⟩ ⟨t.val % 8 * 512 + r.val, by omega⟩ d) := by
  blk_ext [idx t]

theorem g_read (A : FVec Ideal S1x1024 .f32) (t : Fin cfg0.N) (d : Fin 1024) :
    (((cfg0.win 1).blk t).view.read (Elt Ideal) A : FVec Ideal S1x1024 .f32) (ix2 0 d) = A (ix2 0 d) := by
  blk_ext [idx t]

theorem sc_read (A : FVec Ideal S16x1x1024 .f32) (t : Fin cfg0.N) (ht : t.val < 128) (d : Fin 1024) :
    (((cfg0.win 2).blk t).view.read (Elt Ideal) A : FVec Ideal S1x1x1024 .f32) (ix3 0 0 d) = A (ix3 ⟨t.val / 8, by omega⟩ 0 d) := by
  blk_ext [idx t]

theorem sh_read (A : FVec Ideal S16x1x1024 .f32) (t : Fin cfg0.N) (ht : t.val < 128) (d : Fin 1024) :
    (((cfg0.win 3).blk t).view.read (Elt Ideal) A : FVec Ideal S1x1x1024 .f32) (ix3 0 0 d) = A (ix3 ⟨t.val / 8, by omega⟩ 0 d) := by
  blk_ext [idx t]

theorem w_read (A : FVec Ideal S1024x1536 .bf16) (t : Fin cfg0.N) (d : Fin 1024) (l : Fin 1536) :
    (((cfg0.win 4).blk t).view.read (Elt Ideal) A : FVec Ideal S1024x1536 .bf16) (ix2 d l) = A (ix2 d l) := by
  blk_ext [idx t]

theorem c_read (A : FVec Ideal S4096x128 .f32) (t : Fin cfg0.N) (ht : t.val < 128) (r : Fin 512) (l : Fin 128) :
    (((cfg0.win 5).blk t).view.read (Elt Ideal) A : FVec Ideal S512x128 .f32) (ix2 r l) = A (ix2 ⟨t.val % 8 * 512 + r.val, by omega⟩ l) := by
  blk_ext [idx t]

theorem s_read (A : FVec Ideal S4096x128 .f32) (t : Fin cfg0.N) (ht : t.val < 128) (r : Fin 512) (l : Fin 128) :
    (((cfg0.win 6).blk t).view.read (Elt Ideal) A : FVec Ideal S512x128 .f32) (ix2 r l) = A (ix2 ⟨t.val % 8 * 512 + r.val, by omega⟩ l) := by
  blk_ext [idx t]

theorem n_read (A : FVec Ideal S8x128 .f32) (t : Fin cfg0.N) (r : Fin 8) (l : Fin 128) :
    (((cfg0.win 7).blk t).view.read (Elt Ideal) A : FVec Ideal S8x128 .f32) (ix2 r l) = A (ix2 r l) := by
  blk_ext [idx t]

theorem m_read (A : FVec Ideal S128x128 .bf16) (t : Fin cfg0.N) (d l : Fin 128) :
    (((cfg0.win 8).blk t).view.read (Elt Ideal) A : FVec Ideal S128x128 .bf16) (ix2 d l) = A (ix2 d l) := by
  blk_ext [idx t]

section Blocks
variable (z0 : FVec Ideal S1x512x1024 .f32) (z1 : FVec Ideal S1x1024 .f32) (z2 z3 : FVec Ideal S1x1x1024 .f32)
  (zw : FVec Ideal S1024x1536 .bf16) (cs sn : FVec Ideal S512x128 .f32) (z7 : FVec Ideal S8x128 .f32) (z8 : FVec Ideal S128x128 .bf16) (b : Fin 16) (n : Fin 4096) (r : Fin 512)

/-- A block's column is the array's, when its reads are. -/
theorem seg_column (h0 : ∀ d, z0 (ix3 0 r d) = x (ix3 b n d)) (h1 : ∀ d, z1 (ix2 0 d) = g (ix1 d)) (h2 : ∀ d, z2 (ix3 0 0 d) = sc (ix2 b d))
    (h3 : ∀ d, z3 (ix3 0 0 d) = sh (ix2 b d)) (h4 : ∀ d l, zw (ix2 d l) = w (ix2 d l)) (col : Fin 1536) :
    seg z0 z1 z2 z3 zw r col = column x g sc sh w b n col := by
  unfold seg column
  rw [funext h0, funext h1, funext h2, funext h3, funext fun d => h4 d col]

/-- A chunk of columns normed by the kernel is normed by head. -/
theorem segNorm_eq (k : Fin 8) (hreal : ∀ col, ∃ s : ℝ, column x g sc sh w b n col = s)
    (hcol : ∀ col, seg z0 z1 z2 z3 zw r col = column x g sc sh w b n col)
    (hm : ∀ d l : Fin 128, z8 (ix2 d l) = if d.val / 64 = l.val / 64 then ((1 / 64 : ℝ) : EReal) else 0)
    (hg : ∀ l : Fin 128, z7 (ix2 k l) = gq (ix1 ⟨l.val % 64, by omega⟩)) (base : ℕ) (hb : base + 128 ≤ 1536) (l : Fin 128) :
    segNorm z0 z1 z2 z3 zw z7 z8 r base hb k l
      = headNorm (fun e => column x g sc sh w b n ⟨base + (l.val / 64 * 64 + e.val), by omega⟩) (fun e => gq (ix1 e)) ⟨l.val % 64, by omega⟩ := by
  choose s hs using hreal
  unfold segNorm
  simp only [hcol, hs, hg]
  rw [laneNorm_eq (fun e => s ⟨base + e.val, by omega⟩) _ _ _ l (fun e => hm e l)]
  refine congrArg (fun G => headNorm _ G _) (funext fun e => congrArg gq (congrArg ix1 (Fin.ext ?_)))
  dsimp only
  omega

theorem qBlk_eq (hreal : ∀ col, ∃ s : ℝ, column x g sc sh w b n col = s)
    (hcol : ∀ col, seg z0 z1 z2 z3 zw r col = column x g sc sh w b n col)
    (hm : ∀ d l : Fin 128, z8 (ix2 d l) = if d.val / 64 = l.val / 64 then ((1 / 64 : ℝ) : EReal) else 0)
    (hg : ∀ l : Fin 128, z7 (ix2 0 l) = gq (ix1 ⟨l.val % 64, by omega⟩))
    (hc : ∀ l : Fin 128, cs (ix2 r l) = Ideal.cos (angle n ⟨l.val % 64, by omega⟩))
    (hs : ∀ l : Fin 128, sn (ix2 r l) = if l.val % 32 < 16 then -Ideal.sin (angle n ⟨l.val % 64, by omega⟩) else Ideal.sin (angle n ⟨l.val % 64, by omega⟩))
    (l : Fin 1024) : qBlk z0 z1 z2 z3 zw cs sn z7 z8 r l = qArr x g sc sh w gq (ix3 b n l) := by
  unfold qBlk
  rw [turn_rotated n _ _ _ _ (hc _) (hs _)]
  simp only [segNorm_eq x g sc sh w gq z0 z1 z2 z3 zw z7 z8 b n r 0 hreal hcol hm hg]
  show rotated n (fun e => headNorm (fun e' => column x g sc sh w b n ⟨l.val / 128 * 128 + ((l.val % 128 / 64 * 64 + e.val) / 64 * 64 + e'.val), _⟩) (fun e' => gq (ix1 e'))
      ⟨(l.val % 128 / 64 * 64 + e.val) % 64, _⟩) ⟨l.val % 128 % 64, _⟩ * _
    = rotated n (headNorm (fun e => column x g sc sh w b n ⟨l.val / 64 * 64 + e.val, _⟩) (fun e => gq (ix1 e))) ⟨l.val % 64, _⟩ * _
  congr 2
  · funext e
    exact congr (congrArg (fun f => headNorm f (fun e' => gq (ix1 e'))) (funext fun e' => congrArg (column x g sc sh w b n) (Fin.ext (by dsimp only; omega))))
      (Fin.ext (by dsimp only; omega))
  · exact Fin.ext (by dsimp only; omega)

theorem kBlk_eq (hreal : ∀ col, ∃ s : ℝ, column x g sc sh w b n col = s)
    (hcol : ∀ col, seg z0 z1 z2 z3 zw r col = column x g sc sh w b n col)
    (hm : ∀ d l : Fin 128, z8 (ix2 d l) = if d.val / 64 = l.val / 64 then ((1 / 64 : ℝ) : EReal) else 0)
    (hg : ∀ l : Fin 128, z7 (ix2 1 l) = gk (ix1 ⟨l.val % 64, by omega⟩))
    (hc : ∀ l : Fin 128, cs (ix2 r l) = Ideal.cos (angle n ⟨l.val % 64, by omega⟩))
    (hs : ∀ l : Fin 128, sn (ix2 r l) = if l.val % 32 < 16 then -Ideal.sin (angle n ⟨l.val % 64, by omega⟩) else Ideal.sin (angle n ⟨l.val % 64, by omega⟩))
    (l : Fin 256) : kBlk z0 z1 z2 z3 zw cs sn z7 z8 r l = kArr x g sc sh w gk (ix3 b n l) := by
  unfold kBlk
  rw [turn_rotated n _ _ _ _ (hc _) (hs _)]
  simp only [segNorm_eq x g sc sh w gk z0 z1 z2 z3 zw z7 z8 b n r 1 hreal hcol hm hg]
  show rotated n (fun e => headNorm (fun e' => column x g sc sh w b n ⟨1024 + l.val / 128 * 128 + ((l.val % 128 / 64 * 64 + e.val) / 64 * 64 + e'.val), _⟩) (fun e' => gk (ix1 e'))
      ⟨(l.val % 128 / 64 * 64 + e.val) % 64, _⟩) ⟨l.val % 128 % 64, _⟩
    = rotated n (headNorm (fun e => column x g sc sh w b n ⟨1024 + (l.val / 64 * 64 + e.val), _⟩) (fun e => gk (ix1 e))) ⟨l.val % 64, _⟩
  congr 1
  · funext e
    exact congr (congrArg (fun f => headNorm f (fun e' => gk (ix1 e'))) (funext fun e' => congrArg (column x g sc sh w b n) (Fin.ext (by dsimp only; omega))))
      (Fin.ext (by dsimp only; omega))
  · exact Fin.ext (by dsimp only; omega)

end Blocks

variable (m : (ℓ : Loc nD τ sig) → Buf (Elt Ideal) ℓ) (c : Dev nD)
variable (h0 : m ((c.tc : Thread nD τ).loc main_arg0) = x) (h1 : m ((c.tc : Thread nD τ).loc main_arg1) = g)
  (h2 : m ((c.tc : Thread nD τ).loc main_arg2) = sc) (h3 : m ((c.tc : Thread nD τ).loc main_arg3) = sh)
  (h4 : m ((c.tc : Thread nD τ).loc main_arg4) = w) (h5 : m ((c.tc : Thread nD τ).loc main_arg5) = gq)
  (h6 : m ((c.tc : Thread nD τ).loc main_arg6) = gk) (hreal : ∀ b n col, ∃ s : ℝ, column x g sc sh w b n col = s)

include h0 h1 h2 h3 h4 in
/-- The columns of a grid point's rows. -/
theorem seg_at (t : Fin cfg0.N) (ht : t.val < 128) (r : Fin 512) (col : Fin 1536) :
    seg (iblk m c 0 t) (iblk m c 1 t) (iblk m c 2 t) (iblk m c 3 t) (iblk m c 4 t) r col
      = column x g sc sh w ⟨t.val / 8, by omega⟩ ⟨t.val % 8 * 512 + r.val, by omega⟩ col :=
  seg_column x g sc sh w _ _ _ _ _ _ _ _
    (fun d => (x_read (V m c main_arg0) t ht r d).trans (congrFun ((V_main_arg0 m c).trans h0) _))
    (fun d => (g_read (V m c main_v55) t d).trans (gain_at m c g h1 d))
    (fun d => (sc_read (V m c main_v11) t ht d).trans (scale_at m c sc h2 _ d))
    (fun d => (sh_read (V m c main_v12) t ht d).trans (shift_at m c sh h3 _ d))
    (fun d l => (w_read (V m c main_v13) t d l).trans (weight_at m c w h4 d l)) col

include h0 h1 h2 h3 h4 in
/-- The values after the run. -/
theorem final_v : (dats m 0 c).arrAt 11 cfg0.N = vArr x g sc sh w := by
  refine (dats m 0 c).arrAt_eq_of_covers 11 _ (by decide +kernel) fun t hf y => ?_
  blk_simp
  rw [after0_11]
  have ht : t.val < 128 := (idx t).2.2.2.2.2.2.2.2.2.2.2.2
  idx_vars y
  refine (out11 ..).trans ?_
  refine (seg_at x g sc sh w m c h0 h1 h2 h3 h4 t ht y1 ⟨1280 + y2.val, by omega⟩).trans ?_
  refine (rfl : _ = vArr x g sc sh w (ix3 ⟨t.val / 8, by omega⟩ ⟨t.val % 8 * 512 + y1.val, by omega⟩ y2)).trans ?_
  blk_ext [idx t]

include h0 h1 h2 h3 h4 h5 hreal in
/-- The queries after the run. -/
theorem final_q : (dats m 0 c).arrAt 9 cfg0.N = qArr x g sc sh w gq := by
  refine (dats m 0 c).arrAt_eq_of_covers 9 _ (by decide +kernel) fun t hf y => ?_
  blk_simp
  rw [after0_9]
  have ht : t.val < 128 := (idx t).2.2.2.2.2.2.2.2.2.2.2.2
  idx_vars y
  refine (out9 ..).trans ?_
  refine (qBlk_eq x g sc sh w gq _ _ _ _ _ _ _ _ _ ⟨t.val / 8, by omega⟩ ⟨t.val % 8 * 512 + y1.val, by omega⟩ y1
    (hreal _ _)
    (fun col => seg_at x g sc sh w m c h0 h1 h2 h3 h4 t ht y1 col)
    (fun d l => (m_read (V m c main_v67) t d l).trans (mean_at m c d l))
    (fun l => (n_read (V m c main_v10) t 0 l).trans (qgain_at m c gq h5 l))
    (fun l => (c_read (V m c main_v51) t ht y1 l).trans (cos_at m c _ l))
    (fun l => (s_read (V m c main_v54) t ht y1 l).trans (sin_at m c _ l)) y2).trans ?_
  blk_ext [idx t]

include h0 h1 h2 h3 h4 h6 hreal in
/-- The keys after the run. -/
theorem final_k : (dats m 0 c).arrAt 10 cfg0.N = kArr x g sc sh w gk := by
  refine (dats m 0 c).arrAt_eq_of_covers 10 _ (by decide +kernel) fun t hf y => ?_
  blk_simp
  rw [after0_10]
  have ht : t.val < 128 := (idx t).2.2.2.2.2.2.2.2.2.2.2.2
  idx_vars y
  refine (out10 ..).trans ?_
  refine (kBlk_eq x g sc sh w gk _ _ _ _ _ _ _ _ _ ⟨t.val / 8, by omega⟩ ⟨t.val % 8 * 512 + y1.val, by omega⟩ y1
    (hreal _ _)
    (fun col => seg_at x g sc sh w m c h0 h1 h2 h3 h4 t ht y1 col)
    (fun d l => (m_read (V m c main_v67) t d l).trans (mean_at m c d l))
    (fun l => (n_read (V m c main_v10) t 1 l).trans (kgain_at m c gk h6 l))
    (fun l => (c_read (V m c main_v51) t ht y1 l).trans (cos_at m c _ l))
    (fun l => (s_read (V m c main_v54) t ht y1 l).trans (sin_at m c _ l)) y2).trans ?_
  blk_ext [idx t]

end Cert.Kernel3Ideal.Odd

end
-- ==== Proof.OddFinite.lean ====
/- The precondition of the projection with head norms read at an element: what the rows are modulated and projected by
   is real. -/
module

public import proofs.«01_k».proof.Proof.Finite

@[expose] public section

set_option maxRecDepth 16384

noncomputable section

namespace Cert.Pre_finite_inputs

open Idealize.ShloMosaic Cert.Pre_finite_inputs
open Cert.Pre_finite_scores (real_of_lt)

/-- The side conditions of the precondition's operations. -/
theorem side : Facts where
  bcast_S1024_S1x1024_1 := by decide
  transposes_S1024x1536_S1536x1024_1_0 := by decide
  bcast_S_S1x1024 := by decide
  bcast_S_S16x1024 := by decide
  bcast_S_S1536x1024 := by decide
  concatenates_S1x1024_S16x1024_S16x1024_S1536x1024_S1569x1024_d0 := by decide

variable [Facts] (x : FVec Ideal S16x4096x1024 .f32) (g : FVec Ideal S1024 .f32) (sc sh : FVec Ideal S16x1024 .f32)
  (w : FVec Ideal S1024x1536 .f32) (gq gk : FVec Ideal S64 .f32) (h : fn (F := Ideal) x g sc sh w gq gk = fun _ => 1#1)

include h

/-- The first line of the precondition is about the gains. -/
theorem g_real (d : Fin 1024) : ∃ r : ℝ, g (ix1 d) = r := by
  have e := congrFun h (ix2 ⟨0, by omega⟩ d)
  revert e
  pointwise [fn]
  exact real_of_lt _

/-- The next sixteen lines are about the scales. -/
theorem sc_real (b : Fin 16) (d : Fin 1024) : ∃ r : ℝ, sc (ix2 b d) = r := by
  have e := congrFun h (ix2 ⟨1 + b.val, by omega⟩ d)
  revert e
  pointwise [fn]
  exact real_of_lt _

/-- The next sixteen lines are about the shifts. -/
theorem sh_real (b : Fin 16) (d : Fin 1024) : ∃ r : ℝ, sh (ix2 b d) = r := by
  have e := congrFun h (ix2 ⟨17 + b.val, by omega⟩ d)
  revert e
  pointwise [fn]
  rw [dif_neg (by omega), dif_neg (by omega), dif_pos (by omega)]
  intro e
  obtain ⟨r, hr⟩ := real_of_lt _ e
  refine ⟨r, .trans (congrArg sh (congrFun (congrArg ix2 (Fin.ext ?_)) d)) hr⟩
  dsimp only
  omega

/-- The other lines are about the weights, one line for a column. -/
theorem w_real (d : Fin 1024) (col : Fin 1536) : ∃ r : ℝ, w (ix2 d col) = r := by
  have e := congrFun h (ix2 ⟨33 + col.val, by omega⟩ d)
  revert e
  pointwise [fn]
  rw [dif_neg (by omega), dif_neg (by omega), dif_neg (by omega)]
  intro e
  obtain ⟨r, hr⟩ := real_of_lt _ e
  refine ⟨r, .trans (congrArg w (congrArg (ix2 d) (Fin.ext ?_))) hr⟩
  dsimp only
  omega

end Cert.Pre_finite_inputs

end
-- ==== Proof.OddStages.lean ====
/- The reference of the projection with head norms as its stages: the projection of the modulated rows, the norms of
   heads, the angles, and the rotation of heads; each read at an index. -/
module

public import proofs.«01_k».proof.Proof.Gen.Reference3Ideal.Run
public import proofs.«01_k».proof.Proof.HeadNorm
public import Idealize.ShloMosaic.Lib.Pointwise
public import Idealize.ShloMosaic.Lib.Tactic.CleanTypes

@[expose] public section

set_option maxRecDepth 16384

noncomputable section

namespace Cert.Reference3Ideal.Odd

open Cert.Reference3Ideal Cert.Reference3Ideal.Gen Cert.Reference3Ideal.Value Idealize.ShloMosaic Idealize.ShloMosaic.TcCoe Idealize.SL.Sem Cert.Proj

/-- The projection of the normalised, modulated rows. -/
def projection (x : FVec Ideal S16x4096x1024 .f32) (g : FVec Ideal S1024 .f32) (sc sh : FVec Ideal S16x1024 .f32) (w : FVec Ideal S1024x1536 .f32) :
    FVec Ideal S16x4096x1536 .f32 :=
  Host.dotGeneral dot_S16x4096x1024_S1024x1536_S16x4096x1536_2_0_01_1_n_n none
    (addf
      (mulf
        (mulf
          (mulf x
            (broadcastInDim S16x4096x1024 ![0, 1, 2] bcast_S16x4096x1_S16x4096x1024_0_1_2
              (Host.rsqrt
                (addf
                  (Host.divf
                    (broadcastInDim S16x4096x1 ![0, 1] bcast_S16x4096_S16x4096x1_0_1
                      (Host.reduceAdd (mulf x x) (constant S_ .f32 0x00000000#32) reducesTo_S16x4096x1024_S16x4096_d2 h_S_))
                    (broadcastInDim S16x4096x1 ![] bcast_S_S16x4096x1 (constant S_ .f32 0x44800000#32)))
                  (broadcastInDim S16x4096x1 ![] bcast_S_S16x4096x1 (constant S_ .f32 0x358637BD#32))))))
          (broadcastInDim S16x4096x1024 ![0, 1, 2] bcast_S1x1x1024_S16x4096x1024_0_1_2 (broadcastInDim S1x1x1024 ![2] bcast_S1024_S1x1x1024_2 g)))
        (broadcastInDim S16x4096x1024 ![0, 1, 2] bcast_S16x1x1024_S16x4096x1024_0_1_2
          (addf (broadcastInDim S16x1x1024 ![] bcast_S_S16x1x1024 (constant S_ .f32 0x3F800000#32))
            (broadcastInDim S16x1x1024 ![0, 2] bcast_S16x1024_S16x1x1024_0_2 sc))))
      (broadcastInDim S16x4096x1024 ![0, 1, 2] bcast_S16x1x1024_S16x4096x1024_0_1_2
        (broadcastInDim S16x1x1024 ![0, 2] bcast_S16x1024_S16x1x1024_0_2 sh)))
    w

/-- The frequencies of the pairs of lanes. -/
def freqs : FVec Ideal S16 .f32 :=
  Host.powf (broadcastInDim S16 ![] bcast_S_S16 (constant S_ .f32 0x461C4000#32))
    (Host.divf
      (Host.negf
        (addf (broadcastInDim S16 ![] bcast_S_S16 (constant S_ .f32 0x00000000#32))
          (mulf (broadcastInDim S16 ![] bcast_S_S16 (constant S_ .f32 0x40000000#32)) (sitofp .f32 (iotaInDim S16 32 0)))))
      (broadcastInDim S16 ![] bcast_S_S16 (constant S_ .f32 0x42000000#32)))

/-- The angles of places: a place's coordinate times the frequencies. -/
def angles (p : IVec S64x64 32) : FVec Ideal S4096x16 .f32 :=
  mulf
    (broadcastInDim S4096x16 ![0, 1] bcast_S4096x1_S4096x16_0_1
      (broadcastInDim S4096x1 ![0] bcast_S4096_S4096x1_0 (sitofp .f32 (shapeCast _ p shapeCasts_S64x64_S4096))))
    (broadcastInDim S4096x16 ![0, 1] bcast_S1x16_S4096x16_0_1 (broadcastInDim S1x16 ![1] bcast_S16_S1x16_1 freqs))

/-- The grid's rows, and its columns. -/
def rows : IVec S64x64 32 := broadcastInDim S64x64 ![0] bcast_S64_S64x64_0 (iotaInDim S64 32 0)
def cols : IVec S64x64 32 := broadcastInDim S64x64 ![1] bcast_S64_S64x64_1 (iotaInDim S64 32 0)

/-- A half of every one of 16 heads, its two halves turned by the angles. -/
def turned16 (h : FVec Ideal S16x4096x16x32 .f32) (a : FVec Ideal S4096x16 .f32) : FVec Ideal S16x4096x16x32 .f32 :=
  concatenate S16x4096x16x32 3
    [⟨S16x4096x16x16,
      (subf
        (mulf (extractStridedSlice S16x4096x16x16 ![0, 0, 0, 0] h slices_S16x4096x16x32_S16x4096x16x16_0_0_0_0)
          (broadcastInDim S16x4096x16x16 ![0, 1, 2, 3] bcast_S1x4096x1x16_S16x4096x16x16_0_1_2_3
            (broadcastInDim S1x4096x1x16 ![1, 3] bcast_S4096x16_S1x4096x1x16_1_3 (Host.cos a))))
        (mulf (extractStridedSlice S16x4096x16x16 ![0, 0, 0, 16] h slices_S16x4096x16x32_S16x4096x16x16_0_0_0_16)
          (broadcastInDim S16x4096x16x16 ![0, 1, 2, 3] bcast_S1x4096x1x16_S16x4096x16x16_0_1_2_3
            (broadcastInDim S1x4096x1x16 ![1, 3] bcast_S4096x16_S1x4096x1x16_1_3 (Host.sin a)))))⟩,
     ⟨S16x4096x16x16,
      (addf
        (mulf (extractStridedSlice S16x4096x16x16 ![0, 0, 0, 16] h slices_S16x4096x16x32_S16x4096x16x16_0_0_0_16)
          (broadcastInDim S16x4096x16x16 ![0, 1, 2, 3] bcast_S1x4096x1x16_S16x4096x16x16_0_1_2_3
            (broadcastInDim S1x4096x1x16 ![1, 3] bcast_S4096x16_S1x4096x1x16_1_3 (Host.cos a))))
        (mulf (extractStridedSlice S16x4096x16x16 ![0, 0, 0, 0] h slices_S16x4096x16x32_S16x4096x16x16_0_0_0_0)
          (broadcastInDim S16x4096x16x16 ![0, 1, 2, 3] bcast_S1x4096x1x16_S16x4096x16x16_0_1_2_3
            (broadcastInDim S1x4096x1x16 ![1, 3] bcast_S4096x16_S1x4096x1x16_1_3 (Host.sin a)))))⟩]
    concatenates_S16x4096x16x16_S16x4096x16x16_S16x4096x16x32_d3

/-- 16 heads of the projection, from column 0. -/
def heads16 (p : FVec Ideal S16x4096x1536 .f32) : FVec Ideal S16x4096x16x64 .f32 :=
  shapeCast _ (extractStridedSlice S16x4096x1024 ![0, 0, 0] p slices_S16x4096x1536_S16x4096x1024_0_0_0) shapeCasts_S16x4096x1024_S16x4096x16x64

/-- 16 heads rotated: the first half by the row's angles, the second by the column's. -/
def rotated16 (h : FVec Ideal S16x4096x16x64 .f32) (ar ac : FVec Ideal S4096x16 .f32) : FVec Ideal S16x4096x16x64 .f32 :=
  concatenate S16x4096x16x64 3
    [⟨S16x4096x16x32, turned16 (extractStridedSlice S16x4096x16x32 ![0, 0, 0, 0] h slices_S16x4096x16x64_S16x4096x16x32_0_0_0_0) ar⟩,
     ⟨S16x4096x16x32, turned16 (extractStridedSlice S16x4096x16x32 ![0, 0, 0, 32] h slices_S16x4096x16x64_S16x4096x16x32_0_0_0_32) ac⟩]
    concatenates_S16x4096x16x32_S16x4096x16x32_S16x4096x16x64_d3

/-- A half of every one of 4 heads, its two halves turned by the angles. -/
def turned4 (h : FVec Ideal S16x4096x4x32 .f32) (a : FVec Ideal S4096x16 .f32) : FVec Ideal S16x4096x4x32 .f32 :=
  concatenate S16x4096x4x32 3
    [⟨S16x4096x4x16,
      (subf
        (mulf (extractStridedSlice S16x4096x4x16 ![0, 0, 0, 0] h slices_S16x4096x4x32_S16x4096x4x16_0_0_0_0)
          (broadcastInDim S16x4096x4x16 ![0, 1, 2, 3] bcast_S1x4096x1x16_S16x4096x4x16_0_1_2_3
            (broadcastInDim S1x4096x1x16 ![1, 3] bcast_S4096x16_S1x4096x1x16_1_3 (Host.cos a))))
        (mulf (extractStridedSlice S16x4096x4x16 ![0, 0, 0, 16] h slices_S16x4096x4x32_S16x4096x4x16_0_0_0_16)
          (broadcastInDim S16x4096x4x16 ![0, 1, 2, 3] bcast_S1x4096x1x16_S16x4096x4x16_0_1_2_3
            (broadcastInDim S1x4096x1x16 ![1, 3] bcast_S4096x16_S1x4096x1x16_1_3 (Host.sin a)))))⟩,
     ⟨S16x4096x4x16,
      (addf
        (mulf (extractStridedSlice S16x4096x4x16 ![0, 0, 0, 16] h slices_S16x4096x4x32_S16x4096x4x16_0_0_0_16)
          (broadcastInDim S16x4096x4x16 ![0, 1, 2, 3] bcast_S1x4096x1x16_S16x4096x4x16_0_1_2_3
            (broadcastInDim S1x4096x1x16 ![1, 3] bcast_S4096x16_S1x4096x1x16_1_3 (Host.cos a))))
        (mulf (extractStridedSlice S16x4096x4x16 ![0, 0, 0, 0] h slices_S16x4096x4x32_S16x4096x4x16_0_0_0_0)
          (broadcastInDim S16x4096x4x16 ![0, 1, 2, 3] bcast_S1x4096x1x16_S16x4096x4x16_0_1_2_3
            (broadcastInDim S1x4096x1x16 ![1, 3] bcast_S4096x16_S1x4096x1x16_1_3 (Host.sin a)))))⟩]
    concatenates_S16x4096x4x16_S16x4096x4x16_S16x4096x4x32_d3

/-- 4 heads of the projection, from column 1024. -/
def heads4 (p : FVec Ideal S16x4096x1536 .f32) : FVec Ideal S16x4096x4x64 .f32 :=
  shapeCast _ (extractStridedSlice S16x4096x256 ![0, 0, 1024] p slices_S16x4096x1536_S16x4096x256_0_0_1024) shapeCasts_S16x4096x256_S16x4096x4x64

/-- 4 heads rotated: the first half by the row's angles, the second by the column's. -/
def rotated4 (h : FVec Ideal S16x4096x4x64 .f32) (ar ac : FVec Ideal S4096x16 .f32) : FVec Ideal S16x4096x4x64 .f32 :=
  concatenate S16x4096x4x64 3
    [⟨S16x4096x4x32, turned4 (extractStridedSlice S16x4096x4x32 ![0, 0, 0, 0] h slices_S16x4096x4x64_S16x4096x4x32_0_0_0_0) ar⟩,
     ⟨S16x4096x4x32, turned4 (extractStridedSlice S16x4096x4x32 ![0, 0, 0, 32] h slices_S16x4096x4x64_S16x4096x4x32_0_0_0_32) ac⟩]
    concatenates_S16x4096x4x32_S16x4096x4x32_S16x4096x4x64_d3

/-- 16 heads normed: each lane divided by the root of its head's mean square, and scaled by the gains. -/
def normed16 (h : FVec Ideal S16x4096x16x64 .f32) (g : FVec Ideal S64 .f32) : FVec Ideal S16x4096x16x64 .f32 :=
  mulf
    (mulf h
      (broadcastInDim S16x4096x16x64 ![0, 1, 2, 3] bcast_S16x4096x16x1_S16x4096x16x64_0_1_2_3
        (Host.rsqrt
          (addf
            (Host.divf
              (broadcastInDim S16x4096x16x1 ![0, 1, 2] bcast_S16x4096x16_S16x4096x16x1_0_1_2
                (Host.reduceAdd (mulf h h) (constant S_ .f32 0x00000000#32) reducesTo_S16x4096x16x64_S16x4096x16_d3 h_S_))
              (broadcastInDim S16x4096x16x1 ![] bcast_S_S16x4096x16x1 (constant S_ .f32 0x42800000#32)))
            (broadcastInDim S16x4096x16x1 ![] bcast_S_S16x4096x16x1 (constant S_ .f32 0x358637BD#32))))))
    (broadcastInDim S16x4096x16x64 ![0, 1, 2, 3] bcast_S1x1x1x64_S16x4096x16x64_0_1_2_3 (broadcastInDim S1x1x1x64 ![3] bcast_S64_S1x1x1x64_3 g))

/-- 4 heads normed: each lane divided by the root of its head's mean square, and scaled by the gains. -/
def normed4 (h : FVec Ideal S16x4096x4x64 .f32) (g : FVec Ideal S64 .f32) : FVec Ideal S16x4096x4x64 .f32 :=
  mulf
    (mulf h
      (broadcastInDim S16x4096x4x64 ![0, 1, 2, 3] bcast_S16x4096x4x1_S16x4096x4x64_0_1_2_3
        (Host.rsqrt
          (addf
            (Host.divf
              (broadcastInDim S16x4096x4x1 ![0, 1, 2] bcast_S16x4096x4_S16x4096x4x1_0_1_2
                (Host.reduceAdd (mulf h h) (constant S_ .f32 0x00000000#32) reducesTo_S16x4096x4x64_S16x4096x4_d3 h_S_))
              (broadcastInDim S16x4096x4x1 ![] bcast_S_S16x4096x4x1 (constant S_ .f32 0x42800000#32)))
            (broadcastInDim S16x4096x4x1 ![] bcast_S_S16x4096x4x1 (constant S_ .f32 0x358637BD#32))))))
    (broadcastInDim S16x4096x4x64 ![0, 1, 2, 3] bcast_S1x1x1x64_S16x4096x4x64_0_1_2_3 (broadcastInDim S1x1x1x64 ![3] bcast_S64_S1x1x1x64_3 g))

/-- The queries: the normed and rotated heads scaled, side by side. -/
def queries (p : FVec Ideal S16x4096x1536 .f32) (gq : FVec Ideal S64 .f32) : FVec Ideal S16x4096x1024 .bf16 :=
  truncf .bf16 (shapeCast _ (mulf (rotated16 (normed16 (heads16 p) gq) (angles rows) (angles cols))
    (broadcastInDim S16x4096x16x64 ![] bcast_S_S16x4096x16x64 (constant S_ .f32 0x3E000000#32))) shapeCasts_S16x4096x16x64_S16x4096x1024) bitsLt_bf16_f32

/-- The keys: the normed and rotated heads side by side. -/
def keys (p : FVec Ideal S16x4096x1536 .f32) (gk : FVec Ideal S64 .f32) : FVec Ideal S16x4096x256 .bf16 :=
  truncf .bf16 (shapeCast _ (rotated4 (normed4 (heads4 p) gk) (angles rows) (angles cols)) shapeCasts_S16x4096x4x64_S16x4096x256) bitsLt_bf16_f32

/-- The values: the last 256 columns. -/
def lasts (p : FVec Ideal S16x4096x1536 .f32) : FVec Ideal S16x4096x256 .bf16 :=
  truncf .bf16 (extractStridedSlice S16x4096x256 ![0, 0, 1280] p slices_S16x4096x1536_S16x4096x256_0_0_1280) bitsLt_bf16_f32

section Result
variable (m : (ℓ : Loc nD τ sig) → Buf (Elt Ideal) ℓ) (c : Dev nD) (x : FVec Ideal S16x4096x1024 .f32) (g : FVec Ideal S1024 .f32)
  (sc sh : FVec Ideal S16x1024 .f32) (w : FVec Ideal S1024x1536 .f32) (gq gk : FVec Ideal S64 .f32)
  (h0 : m ((c.tc : Thread nD τ).loc main_arg0) = x) (h1 : m ((c.tc : Thread nD τ).loc main_arg1) = g)
  (h2 : m ((c.tc : Thread nD τ).loc main_arg2) = sc) (h3 : m ((c.tc : Thread nD τ).loc main_arg3) = sh)
  (h4 : m ((c.tc : Thread nD τ).loc main_arg4) = w) (h5 : m ((c.tc : Thread nD τ).loc main_arg5) = gq)
  (h6 : m ((c.tc : Thread nD τ).loc main_arg6) = gk)
include h0 h1 h2 h3 h4

include h5 in
/-- The reference's first result. -/
theorem result_q : res_out0 m c = queries (projection x g sc sh w) gq := by
  subst h0 h1 h2 h3 h4 h5
  rfl

include h6 in
/-- The reference's second result. -/
theorem result_k : res_out1 m c = keys (projection x g sc sh w) gk := by
  subst h0 h1 h2 h3 h4 h6
  rfl

end Result

theorem projection_at (x : FVec Ideal S16x4096x1024 .f32) (g : FVec Ideal S1024 .f32) (sc sh : FVec Ideal S16x1024 .f32) (w : FVec Ideal S1024x1536 .f32)
    (b : Fin 16) (n : Fin 4096) (col : Fin 1536) :
    projection x g sc sh w (ix3 b n col)
      = proj (fun d => x (ix3 b n d)) (fun d => g (ix1 d)) (fun d => sc (ix2 b d)) (fun d => sh (ix2 b d)) (fun d => w (ix2 d col)) := by
  pointwise [projection, proj, modulated]

theorem freqs_at (j : Fin 16) : freqs (ix1 j) = freq j := by
  unfold freqs freq
  pointwise []
  rw [int_word _ (by omega)]

theorem angles_at (p : IVec S64x64 32) (n : Fin 4096) (j : Fin 16) :
    angles p (ix2 n j) = FloatOps.sitofp .f32 (p (ix2 ⟨n.val / 64, by omega⟩ ⟨n.val % 64, by omega⟩)) * freq j := by
  rw [← freqs_at]
  unfold angles
  generalize freqs = f
  pointwise []

theorem rows_at (n : Fin 4096) (j : Fin 16) : angles rows (ix2 n j) = (((n.val / 64 : ℕ) : ℝ) : EReal) * freq j := by
  rw [angles_at]
  refine congrArg (· * freq j) ?_
  pointwise [rows]
  exact int_word _ (by omega)

theorem cols_at (n : Fin 4096) (j : Fin 16) : angles cols (ix2 n j) = (((n.val % 64 : ℕ) : ℝ) : EReal) * freq j := by
  rw [angles_at]
  refine congrArg (· * freq j) ?_
  pointwise [cols]
  exact int_word _ (by omega)

theorem turned16_at (h : FVec Ideal S16x4096x16x32 .f32) (a : FVec Ideal S4096x16 .f32) (b : Fin 16) (n : Fin 4096) (k : Fin 16) (l : Fin 32) :
    turned16 h a (ix4 b n k l)
      = if hl : l.val < 16 then h (ix4 b n k l) * Ideal.cos (a (ix2 n ⟨l.val, hl⟩)) - h (ix4 b n k ⟨16 + l.val, by omega⟩) * Ideal.sin (a (ix2 n ⟨l.val, hl⟩))
        else h (ix4 b n k ⟨16 + (l.val - 16), by omega⟩) * Ideal.cos (a (ix2 n ⟨l.val - 16, by omega⟩)) + h (ix4 b n k ⟨l.val - 16, by omega⟩) * Ideal.sin (a (ix2 n ⟨l.val - 16, by omega⟩)) := by
  pointwise [turned16]

theorem heads16_at (p : FVec Ideal S16x4096x1536 .f32) (b : Fin 16) (n : Fin 4096) (k : Fin 16) (e : Fin 64) :
    heads16 p (ix4 b n k e) = p (ix3 b n ⟨k.val * 64 + e.val, by omega⟩) := by
  pointwise [heads16]

theorem rotated16_at (h : FVec Ideal S16x4096x16x64 .f32) (b : Fin 16) (n : Fin 4096) (k : Fin 16) (l : Fin 64) :
    rotated16 h (angles rows) (angles cols) (ix4 b n k l) = rotated n (fun e => h (ix4 b n k e)) l := by
  unfold rotated16
  have er := rows_at n
  have ec := cols_at n
  generalize angles rows = ar at er ⊢
  generalize angles cols = ac at ec ⊢
  pointwise [turned16_at]
  exact rotated_cases n (fun e => h (ix4 b n k e)) (fun j => ar (ix2 n j)) (fun j => ac (ix2 n j)) er ec l

theorem turned4_at (h : FVec Ideal S16x4096x4x32 .f32) (a : FVec Ideal S4096x16 .f32) (b : Fin 16) (n : Fin 4096) (k : Fin 4) (l : Fin 32) :
    turned4 h a (ix4 b n k l)
      = if hl : l.val < 16 then h (ix4 b n k l) * Ideal.cos (a (ix2 n ⟨l.val, hl⟩)) - h (ix4 b n k ⟨16 + l.val, by omega⟩) * Ideal.sin (a (ix2 n ⟨l.val, hl⟩))
        else h (ix4 b n k ⟨16 + (l.val - 16), by omega⟩) * Ideal.cos (a (ix2 n ⟨l.val - 16, by omega⟩)) + h (ix4 b n k ⟨l.val - 16, by omega⟩) * Ideal.sin (a (ix2 n ⟨l.val - 16, by omega⟩)) := by
  pointwise [turned4]

theorem heads4_at (p : FVec Ideal S16x4096x1536 .f32) (b : Fin 16) (n : Fin 4096) (k : Fin 4) (e : Fin 64) :
    heads4 p (ix4 b n k e) = p (ix3 b n ⟨1024 + (k.val * 64 + e.val), by omega⟩) := by
  pointwise [heads4]

theorem rotated4_at (h : FVec Ideal S16x4096x4x64 .f32) (b : Fin 16) (n : Fin 4096) (k : Fin 4) (l : Fin 64) :
    rotated4 h (angles rows) (angles cols) (ix4 b n k l) = rotated n (fun e => h (ix4 b n k e)) l := by
  unfold rotated4
  have er := rows_at n
  have ec := cols_at n
  generalize angles rows = ar at er ⊢
  generalize angles cols = ac at ec ⊢
  pointwise [turned4_at]
  exact rotated_cases n (fun e => h (ix4 b n k e)) (fun j => ar (ix2 n j)) (fun j => ac (ix2 n j)) er ec l

theorem normed16_at (h : FVec Ideal S16x4096x16x64 .f32) (g : FVec Ideal S64 .f32) (b : Fin 16) (n : Fin 4096) (k : Fin 16) (l : Fin 64) :
    normed16 h g (ix4 b n k l) = headNorm (fun e => h (ix4 b n k e)) (fun e => g (ix1 e)) l := by
  pointwise [normed16, headNorm]

theorem normed4_at (h : FVec Ideal S16x4096x4x64 .f32) (g : FVec Ideal S64 .f32) (b : Fin 16) (n : Fin 4096) (k : Fin 4) (l : Fin 64) :
    normed4 h g (ix4 b n k l) = headNorm (fun e => h (ix4 b n k e)) (fun e => g (ix1 e)) l := by
  pointwise [normed4, headNorm]

theorem queries_at (p : FVec Ideal S16x4096x1536 .f32) (gq : FVec Ideal S64 .f32) (b : Fin 16) (n : Fin 4096) (l : Fin 1024) :
    queries p gq (ix3 b n l)
      = rotated n (headNorm (fun e => p (ix3 b n ⟨l.val / 64 * 64 + e.val, by omega⟩)) (fun e => gq (ix1 e))) ⟨l.val % 64, by omega⟩
        * Ideal.ofBits .f32 0x3E000000#32 := by
  pointwise [queries, rotated16_at, normed16_at, heads16_at]

theorem keys_at (p : FVec Ideal S16x4096x1536 .f32) (gk : FVec Ideal S64 .f32) (b : Fin 16) (n : Fin 4096) (l : Fin 256) :
    keys p gk (ix3 b n l)
      = rotated n (headNorm (fun e => p (ix3 b n ⟨1024 + (l.val / 64 * 64 + e.val), by omega⟩)) (fun e => gk (ix1 e))) ⟨l.val % 64, by omega⟩ := by
  pointwise [keys, rotated4_at, normed4_at, heads4_at]

theorem lasts_at (p : FVec Ideal S16x4096x1536 .f32) (b : Fin 16) (n : Fin 4096) (l : Fin 256) :
    lasts p (ix3 b n l) = p (ix3 b n ⟨1280 + l.val, by omega⟩) := by
  pointwise [lasts]

end Cert.Reference3Ideal.Odd

end
-- ==== Proof.OddEquation.lean ====
/- The equation of the projection with head norms: the three arrays of the kernel are the reference's three results. -/
module

public import proofs.«01_k».proof.Proof.OddFinal
public import proofs.«01_k».proof.Proof.OddFinite
public import proofs.«01_k».proof.Proof.OddStages

@[expose] public section

noncomputable section

namespace Cert.OddProj

open Cert.Kernel3Ideal Cert.Kernel3Ideal.Odd Cert.Reference3Ideal.Odd Cert.Proj Idealize.ShloMosaic

variable (x : FVec Ideal S16x4096x1024 .f32) (g : FVec Ideal S1024 .f32) (sc sh : FVec Ideal S16x1024 .f32) (w : FVec Ideal S1024x1536 .f32)
  (gq gk : FVec Ideal S64 .f32)

/-- The columns agree. -/
theorem column_eq (b : Fin 16) (n : Fin 4096) (col : Fin 1536) :
    projection x g sc sh w (ix3 b n col) = column x g sc sh w b n col :=
  projection_at x g sc sh w b n col

/-- The columns are real where the precondition holds. -/
theorem column_real [Cert.Pre_finite_inputs.Facts] (h : Cert.Pre_finite_inputs.fn (F := Ideal) x g sc sh w gq gk = fun _ => 1#1)
    (b : Fin 16) (n : Fin 4096) (col : Fin 1536) : ∃ s : ℝ, column x g sc sh w b n col = s :=
  proj_real _ _ _ _ _ (Cert.Pre_finite_inputs.g_real x g sc sh w gq gk h) (Cert.Pre_finite_inputs.sc_real x g sc sh w gq gk h b)
    (Cert.Pre_finite_inputs.sh_real x g sc sh w gq gk h b) fun d => Cert.Pre_finite_inputs.w_real x g sc sh w gq gk h d col

/-- The queries agree. -/
theorem q_eq : queries (projection x g sc sh w) gq = qArr x g sc sh w gq := by
  funext y
  idx_vars y
  refine (queries_at _ _ y0 y1 y2).trans ?_
  simp only [column_eq]
  rfl

/-- The keys agree. -/
theorem k_eq : keys (projection x g sc sh w) gk = kArr x g sc sh w gk := by
  funext y
  idx_vars y
  refine (keys_at _ _ y0 y1 y2).trans ?_
  simp only [column_eq]
  rfl

/-- The values agree. -/
theorem v_eq : lasts (projection x g sc sh w) = vArr x g sc sh w := by
  funext y
  idx_vars y
  exact (lasts_at _ y0 y1 y2).trans (column_eq x g sc sh w _ _ _)

end Cert.OddProj

end
-- ==== Proof.lean ====
/- The claims of the certificate, assembled: the runs of the programs (their frames) and the equation of
   the dense attention, of the two input projections and of the two output projections, with their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.OutOddEquation
public import proofs.«01_k».proof.Proof.OutEvenEquation
public import proofs.«01_k».proof.Proof.Gen.KernelIdeal.Value
public import proofs.«01_k».proof.Proof.Gen.ReferenceIdeal.Run
public import proofs.«01_k».proof.Proof.Equation
public import proofs.«01_k».proof.Proof.Finite
public import proofs.«01_k».proof.Proof.ProjEquation
public import proofs.«01_k».proof.Proof.OddEquation
public import Idealize.ShloMosaic.Adequacy
public import Idealize.ShloMosaic.Init
public import Idealize.ShloMosaic.Lib.Quiescent

@[expose] public section

noncomputable section

namespace Cert.Proof

open Idealize.ShloMosaic Idealize.SL.Sem

/-- From memories that agree on the arguments, of which the queries and keys are finite, the attention
    call and its reference run and end with the same array. -/
theorem attention_eq : letI := Cert.Pre_finite_scores.side; Cert.algebraic_KernelIdeal_ReferenceIdeal_pre_finite_scores := by
  letI := Cert.Pre_finite_scores.side
  intro m g m' g' hpre hag
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Value.run m' g')
  obtain ⟨h0, h1, h2, h3, h4⟩ := hag c
  refine (Cert.ReferenceIdeal.Att.out_stages m' c _ _ _ _ _ h0 h1 h2 h3 h4).trans ?_
  refine .trans (Cert.KernelIdeal.Att.att_eq _ _ _ _ _ (Cert.Pre_finite_scores.q_real _ _ _ _ _ (hpre c))
    (Cert.Pre_finite_scores.k_real _ _ _ _ _ (hpre c)) (Cert.Pre_finite_scores.kc_real _ _ _ _ _ (hpre c))).symm ?_
  exact (Cert.KernelIdeal.Att.final m c _ _ _ _ _ rfl rfl rfl rfl rfl).symm

/-- The reference runs, leaves its arguments as they were, and has no semaphore. -/
theorem reference_frame : Cert.quiescent_ReferenceIdeal := fun m g _ =>
  (θ_run (Cert.ReferenceIdeal.defs (F := Ideal)) _ _).mono
    (fun r h => And.intro (fun c => (h c).2) (sem_eq_zero_of_no_sems (by decide) r.2)) (Cert.ReferenceIdeal.Value.run m g)

/-- From memories that agree on the arguments, the projection's call and its reference run and end with the same
    four arrays. -/
theorem projection_eq : Cert.algebraic_Kernel2Ideal_Reference2Ideal := by
  intro m g m' g' _ hag
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, fun c => (Cert.Kernel2Ideal.Gen.dats m 0 c).arrAt 12 Cert.Kernel2Ideal.cfg0.N,
    Cert.Kernel2Ideal.Value.run_blocks m g, ?_⟩
  refine (θ_run Cert.Reference2Ideal.defs _ _).mono (fun _ h c => ⟨(h c).1.trans ?_, (h c).2.1.trans ?_, (h c).2.2.1.trans ?_, (h c).2.2.2.1.trans ?_, (h c).2.2.2.2⟩)
    (Cert.Reference2Ideal.Value.run m' g')
  · rw [(hag c).1, (hag c).2.1, (hag c).2.2.1, (hag c).2.2.2.1, (hag c).2.2.2.2]
    exact (Cert.Proj.u_eq _ _ _ _ _).trans (Cert.Kernel2Ideal.Proj.final_u _ _ _ _ _ m c rfl rfl rfl rfl rfl).symm
  · obtain ⟨h0, h1, h2, h3, h4⟩ := hag c
    exact (Cert.Reference2Ideal.Proj.result_q m' c _ _ _ _ _ h0 h1 h2 h3 h4).trans
      ((Cert.Proj.q_eq _ _ _ _ _).trans (Cert.Kernel2Ideal.Proj.final_q _ _ _ _ _ m c rfl rfl rfl rfl rfl).symm)
  · obtain ⟨h0, h1, h2, h3, h4⟩ := hag c
    exact (Cert.Reference2Ideal.Proj.result_k m' c _ _ _ _ _ h0 h1 h2 h3 h4).trans
      ((Cert.Proj.k_eq _ _ _ _ _).trans (Cert.Kernel2Ideal.Proj.final_k _ _ _ _ _ m c rfl rfl rfl rfl rfl).symm)
  · rw [(hag c).1, (hag c).2.1, (hag c).2.2.1, (hag c).2.2.2.1, (hag c).2.2.2.2]
    exact (Cert.Proj.v_eq _ _ _ _ _).trans (Cert.Kernel2Ideal.Proj.final_v _ _ _ _ _ m c rfl rfl rfl rfl rfl).symm

/-- The projection's reference runs, leaves its arguments as they were, and has no semaphore. -/
theorem reference2_frame : Cert.quiescent_Reference2Ideal := fun m g _ =>
  (θ_run (Cert.Reference2Ideal.defs (F := Ideal)) _ _).mono
    (fun r h => And.intro (fun c => (h c).2.2.2.2) (sem_eq_zero_of_no_sems (by decide) r.2)) (Cert.Reference2Ideal.Value.run m g)

/-- From memories that agree on the arguments, of which those that modulate and project the rows are finite, the call of
    the projection with head norms and its reference run and end with the same three arrays. -/
theorem odd_projection_eq : letI := Cert.Pre_finite_inputs.side; Cert.algebraic_Kernel3Ideal_Reference3Ideal_pre_finite_inputs := by
  letI := Cert.Pre_finite_inputs.side
  intro m g m' g' hpre hag
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g, ?_⟩
  refine (θ_run Cert.Reference3Ideal.defs _ _).mono (fun _ h c => ⟨(h c).1.trans ?_, (h c).2.1.trans ?_, (h c).2.2.1.trans ?_, (h c).2.2.2⟩)
    (Cert.Reference3Ideal.Value.run m' g')
  · obtain ⟨h0, h1, h2, h3, h4, h5, -⟩ := hag c
    exact (Cert.Reference3Ideal.Odd.result_q m' c _ _ _ _ _ _ h0 h1 h2 h3 h4 h5).trans
      ((Cert.OddProj.q_eq ..).trans (Cert.Kernel3Ideal.Odd.final_q _ _ _ _ _ _ m c rfl rfl rfl rfl rfl rfl
        (Cert.OddProj.column_real _ _ _ _ _ _ _ (hpre c))).symm)
  · obtain ⟨h0, h1, h2, h3, h4, -, h6⟩ := hag c
    exact (Cert.Reference3Ideal.Odd.result_k m' c _ _ _ _ _ _ h0 h1 h2 h3 h4 h6).trans
      ((Cert.OddProj.k_eq ..).trans (Cert.Kernel3Ideal.Odd.final_k _ _ _ _ _ _ m c rfl rfl rfl rfl rfl rfl
        (Cert.OddProj.column_real _ _ _ _ _ _ _ (hpre c))).symm)
  · rw [(hag c).1, (hag c).2.1, (hag c).2.2.1, (hag c).2.2.2.1, (hag c).2.2.2.2.1]
    exact (Cert.OddProj.v_eq _ _ _ _ _).trans (Cert.Kernel3Ideal.Odd.final_v _ _ _ _ _ m c rfl rfl rfl rfl rfl).symm

/-- The reference with head norms runs, leaves its arguments as they were, and has no semaphore. -/
theorem reference3_frame : Cert.quiescent_Reference3Ideal := fun m g _ =>
  (θ_run (Cert.Reference3Ideal.defs (F := Ideal)) _ _).mono
    (fun r h => And.intro (fun c => (h c).2.2.2) (sem_eq_zero_of_no_sems (by decide) r.2)) (Cert.Reference3Ideal.Value.run m g)

/-- From memories that agree on the arguments, the call of the odd layer's output projection and its reference run and end
    with the same stream and the same normed stream. -/
theorem odd_output_eq : Cert.algebraic_Kernel4Ideal_Reference4Ideal := by
  intro m g m' g' _ hag
  refine ⟨fun c => (Cert.Kernel4Ideal.Gen.dats m 0 c).arrAt 10 Cert.Kernel4Ideal.cfg0.N, fun c => (Cert.Kernel4Ideal.Gen.dats m 0 c).arrAt 11 Cert.Kernel4Ideal.cfg0.N,
    (θ_run Cert.Kernel4Ideal.defs _ _).mono (fun _ h c => ⟨(h c).1, (h c).2.1, (h c).2.2.2⟩) (Cert.Kernel4Ideal.Value.run_blocks m g), ?_⟩
  refine (θ_run Cert.Reference4Ideal.defs _ _).mono (fun _ h c => ⟨(h c).1.trans ?_, (h c).2.1.trans ?_, (h c).2.2⟩)
    (Cert.Reference4Ideal.Value.run m' g')
  · rw [(hag c).1, (hag c).2.1, (hag c).2.2.1, (hag c).2.2.2.1]
    exact (Cert.Reference4Ideal.Out.stream_eq ..).trans (Cert.Kernel4Ideal.Out.final_x _ _ _ _ m c rfl rfl rfl rfl).symm
  · rw [(hag c).1, (hag c).2.1, (hag c).2.2.1, (hag c).2.2.2.1, (hag c).2.2.2.2.1, (hag c).2.2.2.2.2.1, (hag c).2.2.2.2.2.2.1]
    exact (Cert.Reference4Ideal.Out.normed_eq ..).trans (Cert.Kernel4Ideal.Out.final_h _ _ _ _ _ _ _ m c rfl rfl rfl rfl rfl rfl rfl).symm

/-- The reference of the odd layer's output projection runs, leaves its arguments as they were, and has no semaphore. -/
theorem reference4_frame : Cert.quiescent_Reference4Ideal := fun m g _ =>
  (θ_run (Cert.Reference4Ideal.defs (F := Ideal)) _ _).mono
    (fun r h => And.intro (fun c => (h c).2.2) (sem_eq_zero_of_no_sems (by decide) r.2)) (Cert.Reference4Ideal.Value.run m g)

/-- From memories that agree on the arguments, the call of the even layer's output projection and its reference run and end
    with the same stream and the same normed stream. -/
theorem even_output_eq : Cert.algebraic_Kernel5Ideal_Reference5Ideal := by
  intro m g m' g' _ hag
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N,
    (θ_run Cert.Kernel5Ideal.defs _ _).mono (fun _ h c => ⟨(h c).1, (h c).2.1, (h c).2.2.2⟩) (Cert.Kernel5Ideal.Value.run_blocks m g), ?_⟩
  refine (θ_run Cert.Reference5Ideal.defs _ _).mono (fun _ h c => ⟨(h c).1.trans ?_, (h c).2.1.trans ?_, (h c).2.2⟩)
    (Cert.Reference5Ideal.Value.run m' g')
  · rw [(hag c).1, (hag c).2.1, (hag c).2.2.1, (hag c).2.2.2.1, (hag c).2.2.2.2.1]
    exact (Cert.Reference5Ideal.Out.stream_eq ..).trans (Cert.Kernel5Ideal.Out.final_x _ _ _ _ _ m c rfl rfl rfl rfl rfl).symm
  · rw [(hag c).1, (hag c).2.1, (hag c).2.2.1, (hag c).2.2.2.1, (hag c).2.2.2.2.1, (hag c).2.2.2.2.2.1, (hag c).2.2.2.2.2.2.1, (hag c).2.2.2.2.2.2.2.1]
    exact (Cert.Reference5Ideal.Out.normed_eq ..).trans (Cert.Kernel5Ideal.Out.final_h _ _ _ _ _ _ _ _ m c rfl rfl rfl rfl rfl rfl rfl rfl).symm

/-- The reference of the even layer's output projection runs, leaves its arguments as they were, and has no semaphore. -/
theorem reference5_frame : Cert.quiescent_Reference5Ideal := fun m g _ =>
  (θ_run (Cert.Reference5Ideal.defs (F := Ideal)) _ _).mono
    (fun r h => And.intro (fun c => (h c).2.2) (sem_eq_zero_of_no_sems (by decide) r.2)) (Cert.Reference5Ideal.Value.run m g)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.side, Cert.Pre_finite_inputs.side,
    fun m g _ => Cert.Kernel.Gen.frame m g, fun m g _ => Cert.KernelIdeal.Gen.frame m g, fun m g _ => Cert.KernelIdeal.Gen.frame m g,
    reference_frame, fun m g _ => reference_frame m g .intro,
    fun m g _ => Cert.Kernel2.Gen.frame m g, fun m g _ => Cert.Kernel2Ideal.Gen.frame m g, reference2_frame,
    fun m g _ => Cert.Kernel3.Gen.frame m g, fun m g _ => Cert.Kernel3Ideal.Gen.frame m g, fun m g _ => Cert.Kernel3Ideal.Gen.frame m g,
    reference3_frame, fun m g _ => reference3_frame m g .intro,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    trivial, attention_eq, trivial, projection_eq, trivial, odd_projection_eq, trivial, odd_output_eq, trivial, even_output_eq⟩

end Cert.Proof

end
